-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3E13CD3A#32 (((Real.sqrt 48)⁻¹ : ℝ) : EReal)
  ∧ IdealRules.named_const.Statement Cert.KernelIdeal.κ "mask" .f32 0xCE6E6B28#32 ⊥
  ∧ IdealRules.named_const.Statement Cert.KernelIdeal.κ "qscale" .bf16 0x3E55#16 (((Real.sqrt 48)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8x1024x384 : Shape := ⟨4, ![4, 8, 1024, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S32x1024x384 : Shape := ⟨3, ![32, 1024, 384]⟩
abbrev S32768x384 : Shape := ⟨2, ![32768, 384]⟩
abbrev S1x1152 : Shape := ⟨2, ![1, 1152]⟩
abbrev S1x384 : Shape := ⟨2, ![1, 384]⟩
abbrev S1024x384 : Shape := ⟨2, ![1024, 384]⟩
abbrev S1024x1152 : Shape := ⟨2, ![1024, 1152]⟩
abbrev S1024x8 : Shape := ⟨2, ![1024, 8]⟩
abbrev S1024x1 : Shape := ⟨2, ![1024, 1]⟩
abbrev S64x8 : Shape := ⟨2, ![64, 8]⟩
abbrev S64x64 : Shape := ⟨2, ![64, 64]⟩
abbrev S8x8 : Shape := ⟨2, ![8, 8]⟩
abbrev S384x8 : Shape := ⟨2, ![384, 8]⟩
abbrev S8x1152 : Shape := ⟨2, ![8, 1152]⟩
abbrev S8x384 : Shape := ⟨2, ![8, 384]⟩
abbrev S8x48 : Shape := ⟨2, ![8, 48]⟩
abbrev S1x8 : Shape := ⟨2, ![1, 8]⟩
abbrev S64x1 : Shape := ⟨2, ![64, 1]⟩
abbrev S8x64 : Shape := ⟨2, ![8, 64]⟩
abbrev S1024x64 : Shape := ⟨2, ![1024, 64]⟩
abbrev S1024x48 : Shape := ⟨2, ![1024, 48]⟩
abbrev S1024x56 : Shape := ⟨2, ![1024, 56]⟩
abbrev S1024x1024 : Shape := ⟨2, ![1024, 1024]⟩
abbrev S1024x49 : Shape := ⟨2, ![1024, 49]⟩
abbrev S384x48 : Shape := ⟨2, ![384, 48]⟩

abbrev nBuf : Space → Nat
  | .hbm => 11
  | .vmem => 8
  | .smem => 0
  | _ => 0

abbrev bufTy : (tb : Table) → Fin (tcTables nBuf tb) → BufTy
  | .hbm, ⟨0, _⟩ => ⟨S4x8x1024x384, .f32⟩
  | .hbm, ⟨1, _⟩ => ⟨S1152x384, .f32⟩
  | .hbm, ⟨2, _⟩ => ⟨S1152, .f32⟩
  | .hbm, ⟨3, _⟩ => ⟨S384x384, .f32⟩
  | .hbm, ⟨4, _⟩ => ⟨S384, .f32⟩
  | .hbm, ⟨5, _⟩ => ⟨S32x1024x384, .f32⟩
  | .hbm, ⟨6, _⟩ => ⟨S32768x384, .f32⟩
  | .hbm, ⟨7, _⟩ => ⟨S1x1152, .f32⟩
  | .hbm, ⟨8, _⟩ => ⟨S1x384, .f32⟩
  | .hbm, ⟨9, _⟩ => ⟨S32768x384, .f32⟩
  | .hbm, ⟨10, _⟩ => ⟨S4x8x1024x384, .f32⟩
  | .local _ .vmem, ⟨0, _⟩ => ⟨S1024x384, .f32⟩
  | .local _ .vmem, ⟨1, _⟩ => ⟨S1024x384, .f32⟩
  | .local _ .vmem, ⟨2, _⟩ => ⟨S1152x384, .f32⟩
  | .local _ .vmem, ⟨3, _⟩ => ⟨S1x1152, .f32⟩
  | .local _ .vmem, ⟨4, _⟩ => ⟨S384x384, .f32⟩
  | .local _ .vmem, ⟨5, _⟩ => ⟨S1x384, .f32⟩
  | .local _ .vmem, ⟨6, _⟩ => ⟨S1024x384, .f32⟩
  | .local _ .vmem, ⟨7, _⟩ => ⟨S1024x384, .f32⟩
  | _, _ => ⟨S4x8x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | "qscale" => some (((Real.sqrt 48)⁻¹ * (Real.log 2)⁻¹ : ℝ) : EReal)
  | "scale" => some (((Real.sqrt 48)⁻¹ : ℝ) : EReal)
  | _ => none
-- ==== ReferenceIdeal.lean ====
abbrev S4x8x1024x384 : Shape := ⟨4, ![4, 8, 1024, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S_ : Shape := ⟨0, ![]⟩
abbrev S384x1152 : Shape := ⟨2, ![384, 1152]⟩
abbrev S4x8x1024x1152 : Shape := ⟨4, ![4, 8, 1024, 1152]⟩
abbrev S1x1x1x1152 : Shape := ⟨4, ![1, 1, 1, 1152]⟩
abbrev S4x8x1024x3x8x48 : Shape := ⟨6, ![4, 8, 1024, 3, 8, 48]⟩
abbrev S3x4x8x8x1024x48 : Shape := ⟨6, ![3, 4, 8, 8, 1024, 48]⟩
abbrev S1x4x8x8x1024x48 : Shape := ⟨6, ![1, 4, 8, 8, 1024, 48]⟩
abbrev S4x8x8x1024x48 : Shape := ⟨5, ![4, 8, 8, 1024, 48]⟩
abbrev S4x8x8x8x128x48 : Shape := ⟨6, ![4, 8, 8, 8, 128, 48]⟩
abbrev S4x8x8x8x48 : Shape := ⟨5, ![4, 8, 8, 8, 48]⟩
abbrev S4x8x8x48x8 : Shape := ⟨5, ![4, 8, 8, 48, 8]⟩
abbrev S4x8x8x8x8 : Shape := ⟨5, ![4, 8, 8, 8, 8]⟩
abbrev S4x8x8x8 : Shape := ⟨4, ![4, 8, 8, 8]⟩
abbrev S4x8x8x1x8 : Shape := ⟨5, ![4, 8, 8, 1, 8]⟩
abbrev S4x8x8x8x4 : Shape := ⟨5, ![4, 8, 8, 8, 4]⟩
abbrev S4x8x8x8x4x1 : Shape := ⟨6, ![4, 8, 8, 8, 4, 1]⟩
abbrev S128 : Shape := ⟨1, ![128]⟩
abbrev S1x1x1x1x1x128 : Shape := ⟨6, ![1, 1, 1, 1, 1, 128]⟩
abbrev S4x8x8x8x4x128 : Shape := ⟨6, ![4, 8, 8, 8, 4, 128]⟩
abbrev S4x8x8x8x512 : Shape := ⟨5, ![4, 8, 8, 8, 512]⟩
abbrev S256x1024x48 : Shape := ⟨3, ![256, 1024, 48]⟩
abbrev S256x8x512 : Shape := ⟨3, ![256, 8, 512]⟩
abbrev S256 : Shape := ⟨1, ![256]⟩
abbrev S256x1x1 : Shape := ⟨3, ![256, 1, 1]⟩
abbrev S256x8x512x1 : Shape := ⟨4, ![256, 8, 512, 1]⟩
abbrev S256x8x512x2 : Shape := ⟨4, ![256, 8, 512, 2]⟩
abbrev S256x8x512x48 : Shape := ⟨4, ![256, 8, 512, 48]⟩
abbrev S256x8x128x48 : Shape := ⟨4, ![256, 8, 128, 48]⟩
abbrev S256x8x48x512 : Shape := ⟨4, ![256, 8, 48, 512]⟩
abbrev S256x8x128x512 : Shape := ⟨4, ![256, 8, 128, 512]⟩
abbrev S256x8x128 : Shape := ⟨3, ![256, 8, 128]⟩
abbrev S256x8x128x1 : Shape := ⟨4, ![256, 8, 128, 1]⟩
abbrev S4x8x1024x8x48 : Shape := ⟨5, ![4, 8, 1024, 8, 48]⟩
abbrev S1x1x1x384 : Shape := ⟨4, ![1, 1, 1, 384]⟩

abbrev nBuf : Space → Nat
  | .hbm => 172
  | .vmem => 0
  | .smem => 0
  | _ => 0

abbrev hbmTy0_0 (i : Nat) : BufTy := match i % 128 with
  | 0 => ⟨S4x8x1024x384, .f32⟩
  | 1 => ⟨S1152x384, .f32⟩
  | 2 => ⟨S1152, .f32⟩
  | 3 => ⟨S384x384, .f32⟩
  | 4 => ⟨S384, .f32⟩
  | 5 => ⟨S_, .f32⟩
  | 6 => ⟨S_, .f32⟩
  | 7 => ⟨S_, .f32⟩
  | 8 => ⟨S_, .f32⟩
  | 9 => ⟨S384x1152, .f32⟩
  | 10 => ⟨S4x8x1024x1152, .f32⟩
  | 11 => ⟨S1x1x1x1152, .f32⟩
  | 12 => ⟨S4x8x1024x1152, .f32⟩
  | 13 => ⟨S4x8x1024x1152, .f32⟩
  | 14 => ⟨S4x8x1024x3x8x48, .f32⟩
  | 15 => ⟨S3x4x8x8x1024x48, .f32⟩
  | 16 => ⟨S1x4x8x8x1024x48, .f32⟩
  | 17 => ⟨S4x8x8x1024x48, .f32⟩
  | 18 => ⟨S1x4x8x8x1024x48, .f32⟩
  | 19 => ⟨S4x8x8x1024x48, .f32⟩
  | 20 => ⟨S1x4x8x8x1024x48, .f32⟩
  | 21 => ⟨S4x8x8x1024x48, .f32⟩
  | 22 => ⟨S_, .f32⟩
  | 23 => ⟨S4x8x8x1024x48, .f32⟩
  | 24 => ⟨S4x8x8x1024x48, .f32⟩
  | 25 => ⟨S_, .f32⟩
  | 26 => ⟨S4x8x8x1024x48, .f32⟩
  | 27 => ⟨S4x8x8x1024x48, .f32⟩
  | 28 => ⟨S_, .f32⟩
  | 29 => ⟨S4x8x8x1024x48, .f32⟩
  | 30 => ⟨S4x8x8x1024x48, .i1⟩
  | 31 => ⟨S4x8x8x1024x48, .f32⟩
  | 32 => ⟨S_, .f32⟩
  | 33 => ⟨S4x8x8x1024x48, .f32⟩
  | 34 => ⟨S4x8x8x1024x48, .f32⟩
  | 35 => ⟨S_, .f32⟩
  | 36 => ⟨S4x8x8x1024x48, .f32⟩
  | 37 => ⟨S4x8x8x1024x48, .f32⟩
  | 38 => ⟨S_, .f32⟩
  | 39 => ⟨S4x8x8x1024x48, .f32⟩
  | 40 => ⟨S4x8x8x1024x48, .i1⟩
  | 41 => ⟨S4x8x8x1024x48, .f32⟩
  | 42 => ⟨S_, .f32⟩
  | 43 => ⟨S4x8x8x1024x48, .f32⟩
  | 44 => ⟨S4x8x8x1024x48, .f32⟩
  | 45 => ⟨S_, .f32⟩
  | 46 => ⟨S4x8x8x1024x48, .f32⟩
  | 47 => ⟨S4x8x8x1024x48, .f32⟩
  | 48 => ⟨S_, .f32⟩
  | 49 => ⟨S4x8x8x1024x48, .f32⟩
  | 50 => ⟨S4x8x8x1024x48, .i1⟩
  | 51 => ⟨S4x8x8x1024x48, .f32⟩
  | 52 => ⟨S4x8x8x8x128x48, .f32⟩
  | 53 => ⟨S4x8x8x8x128x48, .f32⟩
  | 54 => ⟨S4x8x8x8x128x48, .f32⟩
  | 55 => ⟨S_, .f32⟩
  | 56 => ⟨S4x8x8x8x48, .f32⟩
  | 57 => ⟨S_, .f32⟩
  | 58 => ⟨S4x8x8x8x48, .f32⟩
  | 59 => ⟨S4x8x8x48x8, .f32⟩
  | 60 => ⟨S4x8x8x8x8, .f32⟩
  | 61 => ⟨S4x8x8x8x8, .f32⟩
  | 62 => ⟨S4x8x8x8x8, .f32⟩
  | 63 => ⟨S4x8x8x8x128x48, .f32⟩
  | 64 => ⟨S_, .f32⟩
  | 65 => ⟨S4x8x8x8, .f32⟩
  | 66 => ⟨S_, .f32⟩
  | 67 => ⟨S4x8x8x8, .f32⟩
  | 68 => ⟨S4x8x8x8, .i1⟩
  | 69 => ⟨S4x8x8x8, .f32⟩
  | 70 => ⟨S4x8x8x1x8, .f32⟩
  | 71 => ⟨S_, .f32⟩
  | 72 => ⟨S4x8x8x1x8, .f32⟩
  | 73 => ⟨S4x8x8x1x8, .f32⟩
  | 74 => ⟨S_, .f32⟩
  | 75 => ⟨S4x8x8x1x8, .f32⟩
  | 76 => ⟨S4x8x8x1x8, .f32⟩
  | 77 => ⟨S4x8x8x8x8, .f32⟩
  | 78 => ⟨S4x8x8x8x8, .f32⟩
  | 79 => ⟨S4x8x8x8x4, .f32⟩
  | 80 => ⟨S4x8x8x8x4, .i32⟩
  | 81 => ⟨S4x8x8x8x4x1, .i32⟩
  | 82 => ⟨S_, .i32⟩
  | 83 => ⟨S4x8x8x8x4x1, .i32⟩
  | 84 => ⟨S4x8x8x8x4x1, .i32⟩
  | 85 => ⟨S128, .i32⟩
  | 86 => ⟨S1x1x1x1x1x128, .i32⟩
  | 87 => ⟨S4x8x8x8x4x128, .i32⟩
  | 88 => ⟨S4x8x8x8x4x128, .i32⟩
  | 89 => ⟨S4x8x8x8x4x128, .i32⟩
  | 90 => ⟨S4x8x8x8x512, .i32⟩
  | 91 => ⟨S256x1024x48, .f32⟩
  | 92 => ⟨S256x1024x48, .f32⟩
  | 93 => ⟨S256x8x512, .i32⟩
  | 94 => ⟨S256, .i32⟩
  | 95 => ⟨S256x1x1, .i32⟩
  | 96 => ⟨S_, .i32⟩
  | 97 => ⟨S256x1x1, .i32⟩
  | 98 => ⟨S256x1x1, .i1⟩
  | 99 => ⟨S_, .i32⟩
  | 100 => ⟨S256x1x1, .i32⟩
  | 101 => ⟨S256x1x1, .i32⟩
  | 102 => ⟨S256x1x1, .i32⟩
  | 103 => ⟨S_, .i32⟩
  | 104 => ⟨S256x8x512, .i32⟩
  | 105 => ⟨S256x8x512, .i1⟩
  | 106 => ⟨S_, .i32⟩
  | 107 => ⟨S256x8x512, .i32⟩
  | 108 => ⟨S256x8x512, .i32⟩
  | 109 => ⟨S256x8x512, .i32⟩
  | 110 => ⟨S256x8x512, .i32⟩
  | 111 => ⟨S256x8x512x1, .i32⟩
  | 112 => ⟨S256x8x512x1, .i32⟩
  | 113 => ⟨S256x8x512x2, .i32⟩
  | 114 => ⟨S256x8x512x48, .f32⟩
  | 115 => ⟨S_, .i32⟩
  | 116 => ⟨S256x1x1, .i32⟩
  | 117 => ⟨S256x1x1, .i1⟩
  | 118 => ⟨S_, .i32⟩
  | 119 => ⟨S256x1x1, .i32⟩
  | 120 => ⟨S256x1x1, .i32⟩
  | 121 => ⟨S256x1x1, .i32⟩
  | 122 => ⟨S_, .i32⟩
  | 123 => ⟨S256x8x512, .i32⟩
  | 124 => ⟨S256x8x512, .i1⟩
  | 125 => ⟨S_, .i32⟩
  | 126 => ⟨S256x8x512, .i32⟩
  | 127 => ⟨S256x8x512, .i32⟩
  | _ => ⟨S4x8x1024x384, .f32⟩

abbrev hbmTy0_1 (i : Nat) : BufTy := match i % 128 with
  | 0 => ⟨S256x8x512, .i32⟩
  | 1 => ⟨S256x8x512, .i32⟩
  | 2 => ⟨S256x8x512x1, .i32⟩
  | 3 => ⟨S256x8x512x1, .i32⟩
  | 4 => ⟨S256x8x512x2, .i32⟩
  | 5 => ⟨S256x8x512x48, .f32⟩
  | 6 => ⟨S256x8x128x48, .f32⟩
  | 7 => ⟨S256x8x48x512, .f32⟩
  | 8 => ⟨S256x8x128x512, .f32⟩
  | 9 => ⟨S256x8x128x512, .f32⟩
  | 10 => ⟨S256x8x128x512, .f32⟩
  | 11 => ⟨S_, .f32⟩
  | 12 => ⟨S256x8x128, .f32⟩
  | 13 => ⟨S_, .f32⟩
  | 14 => ⟨S256x8x128, .f32⟩
  | 15 => ⟨S256x8x128, .f32⟩
  | 16 => ⟨S256x8x128x1, .f32⟩
  | 17 => ⟨S256x8x128x512, .f32⟩
  | 18 => ⟨S256x8x128x512, .f32⟩
  | 19 => ⟨S256x8x128x512, .f32⟩
  | 20 => ⟨S_, .f32⟩
  | 21 => ⟨S256x8x128, .f32⟩
  | 22 => ⟨S256x8x128x1, .f32⟩
  | 23 => ⟨S256x8x128x512, .f32⟩
  | 24 => ⟨S256x8x128x512, .f32⟩
  | 25 => ⟨S256x8x128x48, .f32⟩
  | 26 => ⟨S4x8x8x1024x48, .f32⟩
  | 27 => ⟨S4x8x1024x8x48, .f32⟩
  | 28 => ⟨S4x8x1024x384, .f32⟩
  | 29 => ⟨S384x384, .f32⟩
  | 30 => ⟨S4x8x1024x384, .f32⟩
  | 31 => ⟨S1x1x1x384, .f32⟩
  | 32 => ⟨S4x8x1024x384, .f32⟩
  | 33 => ⟨S4x8x1024x384, .f32⟩
  | 34 => ⟨S_, .f32⟩
  | 35 => ⟨S4x8x1024x384, .f32⟩
  | 36 => ⟨S4x8x1024x384, .f32⟩
  | 37 => ⟨S_, .f32⟩
  | 38 => ⟨S4x8x1024x384, .f32⟩
  | 39 => ⟨S4x8x1024x384, .f32⟩
  | 40 => ⟨S_, .f32⟩
  | 41 => ⟨S4x8x1024x384, .f32⟩
  | 42 => ⟨S4x8x1024x384, .i1⟩
  | 43 => ⟨S4x8x1024x384, .f32⟩
  | _ => ⟨S4x8x1024x384, .f32⟩

abbrev hbmTy (i : Nat) : BufTy := match i / 128 with
  | 0 => hbmTy0_0 i
  | 1 => hbmTy0_1 i
  | _ => ⟨S4x8x1024x384, .f32⟩

abbrev bufTy : (tb : Table) → Fin (tcTables nBuf tb) → BufTy
  | .hbm, ⟨i, _⟩ => hbmTy i
  | _, _ => ⟨S4x8x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_14 : Ref sig .tc := ⟨.hbm, 71, rfl⟩
abbrev main_v51 : Ref sig .tc := ⟨.hbm, 72, rfl⟩
abbrev main_v52 : Ref sig .tc := ⟨.hbm, 73, rfl⟩
abbrev main_cst_15 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_values : Ref sig .tc := ⟨.hbm, 79, rfl⟩
abbrev main_indices : Ref sig .tc := ⟨.hbm, 80, rfl⟩
abbrev main_v57 : Ref sig .tc := ⟨.hbm, 81, rfl⟩
abbrev main_c : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_16 : Ref sig .tc := ⟨.hbm, 96, rfl⟩
abbrev main_v71 : Ref sig .tc := ⟨.hbm, 97, rfl⟩
abbrev main_v72 : Ref sig .tc := ⟨.hbm, 98, rfl⟩
abbrev main_c_17 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_18 : Ref sig .tc := ⟨.hbm, 103, rfl⟩
abbrev main_v76 : Ref sig .tc := ⟨.hbm, 104, rfl⟩
abbrev main_v77 : Ref sig .tc := ⟨.hbm, 105, rfl⟩
abbrev main_c_19 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_20 : Ref sig .tc := ⟨.hbm, 115, rfl⟩
abbrev main_v86 : Ref sig .tc := ⟨.hbm, 116, rfl⟩
abbrev main_v87 : Ref sig .tc := ⟨.hbm, 117, rfl⟩
abbrev main_c_21 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_22 : Ref sig .tc := ⟨.hbm, 122, rfl⟩
abbrev main_v91 : Ref sig .tc := ⟨.hbm, 123, rfl⟩
abbrev main_v92 : Ref sig .tc := ⟨.hbm, 124, rfl⟩
abbrev main_c_23 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_24 : Ref sig .tc := ⟨.hbm, 139, rfl⟩
abbrev main_v106 : Ref sig .tc := ⟨.hbm, 140, rfl⟩
abbrev main_cst_25 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_26 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_27 : Ref sig .tc := ⟨.hbm, 162, rfl⟩
abbrev main_v126 : Ref sig .tc := ⟨.hbm, 163, rfl⟩
abbrev main_v127 : Ref sig .tc := ⟨.hbm, 164, rfl⟩
abbrev main_cst_28 : Ref sig .tc := ⟨.hbm, 165, rfl⟩
abbrev main_v128 : Ref sig .tc := ⟨.hbm, 166, rfl⟩
abbrev main_v129 : Ref sig .tc := ⟨.hbm, 167, rfl⟩
abbrev main_cst_29 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩

abbrev nD : Nat := 1
abbrev τ : Topo := Topo.v7x

variable {F : FTy → Type} [FloatOps F]
-- ==== Proof.Frames.lean ====
/- The three frames and the named constants: what needs no arithmetic of the kernel. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Frames

open Idealize.ShloMosaic Idealize.SL.Sem

/-- The kernel runs, leaves its arguments alone and ends with every counter at zero. -/
theorem kernel : Cert.quiescent_Kernel (hKernel := Cert.Kernel.Gen.facts) :=
  fun m ρ _ => Cert.Kernel.Gen.frame m ρ

/-- The same of the kernel over exact numbers. -/
theorem kernelIdeal : Cert.quiescent_KernelIdeal (hKernelIdeal := Cert.KernelIdeal.Gen.facts) :=
  fun m ρ _ => Cert.KernelIdeal.Gen.frame m ρ

/-- The reference is a list of host operations that writes none of its arguments and has no semaphore at all. -/
theorem referenceIdeal : Cert.quiescent_ReferenceIdeal (hReferenceIdeal := Cert.ReferenceIdeal.Gen.facts) :=
  fun m ρ _ =>
    (θ_run Cert.ReferenceIdeal.defs _ _).mono
      (fun r h => ⟨fun c => (h c).2, Idealize.ShloMosaic.sem_eq_zero_of_no_sems (by decide) r.2⟩)
      (Cert.ReferenceIdeal.Value.run (F := Ideal) m ρ)

/-- Each named constant rounds to the number printed in the kernel and has the stated exact value. -/
theorem preserves : Cert.preserves_Kernel_KernelIdeal :=
  ⟨IdealRules.named_const.statement Cert.KernelIdeal.κ "scale" .f32 0x3E13CD3A#32 (((Real.sqrt 48)⁻¹ : ℝ) : EReal) rfl,
    IdealRules.named_const.statement Cert.KernelIdeal.κ "mask" .f32 0xCE6E6B28#32 ⊥ rfl,
    IdealRules.named_const.statement Cert.KernelIdeal.κ "qscale" .bf16 0x3E55#16
      (((Real.sqrt 48)⁻¹ * (Real.log 2)⁻¹ : ℝ) : EReal) rfl⟩

end Cert.Frames

end
-- ==== Proof.Spec.lean ====
/- The mathematics both programs compute, over real numbers, one block (one pair of leading indices) at a time:
   which windows of keys a window of queries attends to, the attention itself, and the firing rule. -/
module

public import Idealize.ShloMosaic.PureOps.Ideal

@[expose] public section

noncomputable section

namespace Cert.Spec

open Idealize.ShloMosaic

/-- The firing rule: 1 where half the input, less the threshold 1, is not negative, and 0 elsewhere. -/
def fire (e : EReal) : ℝ :=
  if 0 ≤ Ideal.div e (Ideal.ofBits .f32 0x40000000#32) - 1 then 1 else 0

/-- A spike is 0 or 1. -/
theorem fire_cases (e : EReal) : fire e = 0 ∨ fire e = 1 := by
  unfold fire; split <;> simp

/-- The scale of the scores. -/
def scale : ℝ := (Real.sqrt 48)⁻¹

/-- The scale is positive. -/
theorem scale_pos : 0 < scale := inv_pos.mpr (Real.sqrt_pos.mpr (by norm_num))

/-! ## Which windows are taken -/

/-- Of two windows, `p` is taken before `w`: it has the greater key, or the same key and the lower position. -/
def Ahead (key : Fin 8 → EReal) (p w : Fin 8) : Prop := key w < key p ∨ (key p = key w ∧ p < w)

/-- How many windows are taken before `w`. -/
def rank (key : Fin 8 → EReal) (w : Fin 8) : ℕ := by
  classical exact (Finset.univ.filter fun p => Ahead key p w).card

/-- `w` is among the four windows taken. -/
def Taken (key : Fin 8 → EReal) (w : Fin 8) : Prop := rank key w < 4

/-- Two keys that compare alike take the same windows. -/
theorem taken_congr {key key' : Fin 8 → EReal} (h : ∀ p w, Ahead key p w ↔ Ahead key' p w) (w : Fin 8) :
    Taken key w ↔ Taken key' w := by
  classical
  unfold Taken rank
  rw [Finset.filter_congr fun p _ => h p w]

/-! ## One block -/

/-- The spikes of one block: 1024 rows of 384 query, 384 key and 384 value columns. -/
abbrev Block := Fin 1024 → Fin 1152 → ℝ

variable (s : Block)

/-- Query column `d` of head `h`. -/
def q (h : Fin 8) (n : Fin 1024) (d : Fin 48) : ℝ := s n ⟨h * 48 + d, by omega⟩
/-- Key column `d` of head `h`. -/
def k (h : Fin 8) (n : Fin 1024) (d : Fin 48) : ℝ := s n ⟨384 + h * 48 + d, by omega⟩
/-- Value column `d` of head `h`. -/
def v (h : Fin 8) (n : Fin 1024) (d : Fin 48) : ℝ := s n ⟨768 + h * 48 + d, by omega⟩

/-- The window a row lies in. -/
def win (n : Fin 1024) : Fin 8 := ⟨n / 128, by omega⟩
/-- Row `i` of window `w`. -/
def row (w : Fin 8) (i : Fin 128) : Fin 1024 := ⟨w * 128 + i, by omega⟩

/-- A sum over one window's rows. -/
def winSum (f : Fin 1024 → ℝ) (w : Fin 8) : ℝ := ∑ i : Fin 128, f (row w i)

/-- Similarity of query window `w` and key window `w'`. -/
def sim (h w w' : Fin 8) : ℝ := ∑ d : Fin 48, winSum (fun n => q s h n d) w * winSum (fun n => k s h n d) w'

/-- The number of key spikes of a window. -/
def keys (h w' : Fin 8) : ℝ := ∑ d : Fin 48, winSum (fun n => k s h n d) w'

/-- A window is active when its keys spike at all. -/
def Active (h w' : Fin 8) : Prop := Ideal.ofBits .f32 0x3727C5AC#32 < ((keys s h w' : ℝ) : EReal)

open Classical in
/-- The routing score of key window `w'` for query window `w`: the scaled similarity, or `low` for an inactive window. -/
def score (low : EReal) (h w w' : Fin 8) : EReal := if Active s h w' then ((sim s h w w' * scale : ℝ) : EReal) else low

/-- Key window `w'` is one of the four that query window `w` attends to. -/
def Sel (h w w' : Fin 8) : Prop := Taken (score s ⊥ h w) w'

open Classical in
/-- The attention weight of key row `j` for query row `n`, before normalization. -/
def weight (h : Fin 8) (n j : Fin 1024) : ℝ :=
  if Sel s h (win n) (win j) then Real.exp ((∑ d : Fin 48, q s h n d * k s h j d) * scale) else 0

/-- The attention's result. -/
def att (h : Fin 8) (n : Fin 1024) (d : Fin 48) : ℝ := (∑ j, weight s h n j * v s h j d) / ∑ j, weight s h n j

/-- The attention's result in the order of the 384 columns. -/
def attCol (n : Fin 1024) (e : Fin 384) : ℝ := att s ⟨e / 48, by omega⟩ n ⟨e % 48, by omega⟩

end Cert.Spec

end
-- ==== Proof.TopK.lean ====
/- The four windows a stable descending sort puts first are the four that rank lowest. -/
module

public import proofs.«01_k».proof.Proof.Spec
public import Idealize.ShloMosaic.Lib.Pointwise
public import Idealize.ShloMosaic.Lib.SortFacts

@[expose] public section

noncomputable section

namespace Cert.Spec

open Idealize.ShloMosaic

/-- Two relations that agree whenever a later position is asked about an earlier one sort an increasing list alike. -/
theorem stableSort_eq_of_lt {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

open Classical in
/-- The order of taking, as a test. -/
def aheadTest (key : Fin 8 → EReal) (p w : Fin 8) : Bool := decide (Ahead key p w)

/-- Nothing is taken before itself. -/
theorem ahead_irrefl (key : Fin 8 → EReal) (p : Fin 8) : ¬ Ahead key p p := by
  rintro (h | h)
  · exact lt_irrefl _ h
  · exact lt_irrefl _ h.2

/-- The order of taking is one-way. -/
theorem ahead_asymm {key : Fin 8 → EReal} {p w : Fin 8} (h : Ahead key p w) : ¬ Ahead key w p := by
  rintro (h' | h') <;> rcases h with h | h
  · exact lt_asymm h h'
  · exact absurd h' (by rw [h.1]; exact lt_irrefl _)
  · exact absurd h (by rw [h'.1]; exact lt_irrefl _)
  · exact lt_asymm h.2 h'.2

/-- Of two windows one is taken before the other. -/
theorem ahead_total (key : Fin 8 → EReal) {p w : Fin 8} (h : p ≠ w) : Ahead key p w ∨ Ahead key w p := by
  rcases lt_trichotomy (key p) (key w) with hk | hk | hk
  · exact Or.inr (Or.inl hk)
  · rcases lt_or_gt_of_ne h with hp | hp
    · exact Or.inl (Or.inr ⟨hk, hp⟩)
    · exact Or.inr (Or.inr ⟨hk.symm, hp⟩)
  · exact Or.inl (Or.inl hk)

/-- The order of taking is transitive. -/
theorem ahead_trans {key : Fin 8 → EReal} {a b c : Fin 8} (h : Ahead key a b) (h' : Ahead key b c) : Ahead key a c := by
  rcases h with h | h <;> rcases h' with h' | h'
  · exact Or.inl (h'.trans h)
  · exact Or.inl (h'.1 ▸ h)
  · exact Or.inl (h.1 ▸ h')
  · exact Or.inr ⟨h.1.trans h'.1, h.2.trans h'.2⟩

/-- A stable sort by "has the greater key" is the sort by the order of taking. -/
theorem sortedFrom_eq (key : Fin 8 → EReal) (R : Fin 8 → Fin 8 → Bool) (hR : ∀ a b, R a b = decide (key b < key a)) :
    sortedFrom R = sortedFrom (aheadTest key) := by
  have hs : sortPositions 8 R = sortPositions 8 (aheadTest key) := by
    refine stableSort_eq_of_lt R _ (fun a b hab => ?_) _ (List.pairwise_lt_finRange 8)
    rw [hR, aheadTest, decide_eq_decide]
    refine ⟨Or.inl, ?_⟩
    rintro (h | h)
    · exact h
    · exact absurd h.2 (not_lt.mpr hab.le)
  funext t
  unfold sortedFrom
  rw [List.get_of_eq hs]
  rfl

/-- The window at place `t` of the sort has `t` windows before it. -/
theorem rank_sortedFrom (key : Fin 8 → EReal) (t : Fin 8) : rank key (sortedFrom (aheadTest key) t) = t := by
  classical
  have hlt : ∀ i j : Fin 8, i < j → Ahead key (sortedFrom (aheadTest key) i) (sortedFrom (aheadTest key) j) := by
    intro i j hij
    have h := sortedFrom_noInversion (aheadTest key) (aheadTest key)
      (fun a b h => by
        rw [aheadTest, decide_eq_true_eq] at h
        rw [aheadTest, decide_eq_false_iff_not]
        exact ahead_asymm h)
      (fun _ _ h => h)
      (fun a b c h h' => by
        rw [aheadTest, decide_eq_false_iff_not] at h h' ⊢
        intro hac
        by_cases hab : a = b
        · exact h' (hab ▸ hac)
        · rcases ahead_total key hab with h1 | h1
          · exact h h1
          · exact h' (ahead_trans h1 hac))
      i j hij
    rw [aheadTest, decide_eq_false_iff_not] at h
    exact (ahead_total key fun e => hij.ne (sortedFrom_injective _ e)).resolve_right h
  have hset : (Finset.univ.filter fun p => Ahead key p (sortedFrom (aheadTest key) t))
      = (Finset.univ.filter fun i => i < t).image (sortedFrom (aheadTest key)) := by
    ext p
    simp only [Finset.mem_filter, Finset.mem_univ, true_and, Finset.mem_image]
    constructor
    · intro hp
      obtain ⟨i, rfl⟩ := sortedFrom_surjective (aheadTest key) p
      refine ⟨i, ?_, rfl⟩
      rcases lt_trichotomy i t with h | h | h
      · exact h
      · exact absurd (h ▸ hp) (ahead_irrefl key _)
      · exact absurd (hlt t i h) (ahead_asymm hp)
    · rintro ⟨i, hi, rfl⟩
      exact hlt i t hi
  unfold rank
  rw [hset, Finset.card_image_of_injective _ (sortedFrom_injective _),
    show (Finset.univ.filter fun i : Fin 8 => i < t) = Finset.Iio t from by ext; simp, Fin.card_Iio]

/-- The window at place `t` of a stable descending sort, for the first four places. -/
def pick (key : Fin 8 → EReal) (t : Fin 4) : Fin 8 := sortedFrom (aheadTest key) ⟨t, by omega⟩

/-- Different places hold different windows. -/
theorem pick_injective (key : Fin 8 → EReal) : Function.Injective (pick key) := fun i j h =>
  Fin.ext (Fin.mk.inj_iff.mp (sortedFrom_injective _ h))

/-- The windows at the first four places are exactly the windows taken. -/
theorem taken_iff (key : Fin 8 → EReal) (w : Fin 8) : Taken key w ↔ ∃ t, pick key t = w := by
  obtain ⟨i, rfl⟩ := sortedFrom_surjective (aheadTest key) w
  unfold Taken
  rw [rank_sortedFrom]
  constructor
  · intro h
    exact ⟨⟨i, h⟩, rfl⟩
  · rintro ⟨t, ht⟩
    have := sortedFrom_injective _ ht
    rw [← this]
    exact t.2

/-- A sum over the rows of the windows at the first four places is the sum over the rows of the windows taken. -/
theorem sum_pick {M : Type} [AddCommMonoid M] (key : Fin 8 → EReal) (f : Fin 1024 → M) [DecidablePred (Taken key)] :
    ∑ t : Fin 4, ∑ i : Fin 128, f (row (pick key t) i) = ∑ j : Fin 1024, if Taken key (win j) then f j else 0 := by
  have hr : ∑ j : Fin 1024, (if Taken key (win j) then f j else 0)
      = ∑ w : Fin 8, if Taken key w then ∑ i : Fin 128, f (row w i) else 0 := by
    rw [Fin.sum_univ_tiles 8 128 rfl]
    refine Finset.sum_congr rfl fun w _ => ?_
    have hw : ∀ i : Fin 128, win ⟨(w : ℕ) * 128 + i, by omega⟩ = w := fun i => Fin.ext (by simp only [win]; omega)
    by_cases h : Taken key w
    · rw [if_pos h]
      exact Finset.sum_congr rfl fun i _ => by rw [if_pos (by exact (hw i).symm ▸ h)]; rfl
    · rw [if_neg h]
      exact Finset.sum_eq_zero fun i _ => if_neg (by exact (hw i).symm ▸ h)
  rw [hr, ← Finset.sum_filter]
  have hs : (Finset.univ.filter fun w => Taken key w) = Finset.univ.image (pick key) := by
    ext w
    simp only [Finset.mem_filter, Finset.mem_univ, true_and, Finset.mem_image]
    exact taken_iff key w
  rw [hs, Finset.sum_image fun i _ j _ h => pick_injective key h]

end Cert.Spec

end
-- ==== Proof.Bits.lean ====
/- The constants' values, and a truth value read as a number. -/
module

public import Idealize.ShloMosaic.PureOps.Ideal
public import Idealize.ShloMosaic.Lib.Pointwise

@[expose] public section

noncomputable section

namespace Cert.Bits

open Idealize.ShloMosaic

/-- The f32 pattern of 48. -/
theorem fortyEight : Ideal.ofBits .f32 0x42400000#32 = ((48 : ℝ) : EReal) := by
  simp [Ideal.ofBits, Ideal.ieee, -EReal.coe_mul]; norm_num

/-- The f32 pattern of 4. -/
theorem four : Ideal.ofBits .f32 0x40800000#32 = ((4 : ℝ) : EReal) := by
  simp [Ideal.ofBits, Ideal.ieee, -EReal.coe_mul]; norm_num

/-- The f32 pattern of the score of an inactive window: a negative number. -/
theorem low : Ideal.ofBits .f32 0xCE6E6B28#32 = ((-1000000000 : ℝ) : EReal) := by
  simp [Ideal.ofBits, Ideal.ieee, -EReal.coe_mul]; norm_num

/-- The f32 pattern of minus infinity. -/
theorem bottom : Ideal.ofBits .f32 0xFF800000#32 = ⊥ := by
  simp [Ideal.ofBits, Ideal.ieee]

/-- The threshold of activity is not negative. -/
theorem eps_nonneg : (0 : EReal) ≤ Ideal.ofBits .f32 0x3727C5AC#32 := by
  simp [Ideal.ofBits, Ideal.ieee, -EReal.coe_mul]
  try norm_num

/-- The threshold of activity is below 1. -/
theorem eps_lt_one : Ideal.ofBits .f32 0x3727C5AC#32 < ((1 : ℝ) : EReal) := by
  simp [Ideal.ofBits, Ideal.ieee, -EReal.coe_mul]
  norm_cast
  norm_num

/-- A truth value as an unsigned number. -/
theorem uitofp_bit (p : Prop) [Decidable p] :
    (FloatOps.uitofp .f32 (BitVec.ofBool (decide p)) : Ideal .f32) = (((if p then 1 else 0 : ℝ)) : EReal) := by
  by_cases h : p <;> simp [h, FloatOps.uitofp]

/-- A truth value widened and read as a signed number. -/
theorem sitofp_bit {φ : FTy} (b : Bool) :
    (FloatOps.sitofp φ (BitVec.setWidth 32 (BitVec.ofBool b)) : Ideal φ) = (((if b then 1 else 0 : ℝ)) : EReal) := by
  cases b <;> simp [FloatOps.sitofp]

end Cert.Bits

end
-- ==== Proof.Facts.lean ====
/- Facts about one block: the two scores take the same windows, the exponentials in base 2, and the softmax. -/
module

public import proofs.«01_k».proof.Proof.TopK
public import proofs.«01_k».proof.Proof.Bits

@[expose] public section

noncomputable section

namespace Cert.Spec

open Idealize.ShloMosaic

/-- A finite sum of reals, read as an extended real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A truth value as a number, read as an extended real. -/
theorem coe_bit (p : Prop) [Decidable p] : (((if p then 1 else 0 : ℝ)) : EReal) = if p then 1 else 0 := by
  split <;> simp

/-- A sum over all rows that keeps one window's rows is that window's sum. -/
theorem sum_win (f : Fin 1024 → ℝ) (w : Fin 8) : (∑ n : Fin 1024, if win n = w then f n else 0) = winSum f w := by
  rw [Fin.sum_univ_tiles 8 128 rfl, Finset.sum_eq_single w]
  · refine Finset.sum_congr rfl fun i _ => ?_
    rw [if_pos (Fin.ext (by simp only [win]; omega))]
    rfl
  · intro w' _ hw
    refine Finset.sum_eq_zero fun i _ => if_neg fun h => hw ?_
    rw [← h]
    exact Fin.ext (by simp only [win]; omega)
  · simp

/-! ## Spikes -/

/-- The block's entries are spikes. -/
def Spikes (s : Block) : Prop := ∀ n c, s n c = 0 ∨ s n c = 1

section spikes

variable {s : Block} (hs : Spikes s)
include hs

/-- A spike is not negative. -/
theorem Spikes.nonneg (n : Fin 1024) (c : Fin 1152) : 0 ≤ s n c := by
  rcases hs n c with h | h <;> rw [h]
  exact zero_le_one

/-- Similarities are not negative. -/
theorem Spikes.sim_nonneg (h w w' : Fin 8) : 0 ≤ sim s h w w' :=
  Finset.sum_nonneg fun _ _ => mul_nonneg (Finset.sum_nonneg fun _ _ => hs.nonneg _ _) (Finset.sum_nonneg fun _ _ => hs.nonneg _ _)

/-- A window whose keys do not pass the threshold of activity has no key spike. -/
theorem Spikes.quiet {h w' : Fin 8} (hq : ¬ Active s h w') (d : Fin 48) (i : Fin 128) : k s h (row w' i) d = 0 := by
  rcases hs (row w' i) ⟨384 + h * 48 + d, by omega⟩ with h0 | h1
  · exact h0
  · exfalso
    refine hq (lt_of_lt_of_le Cert.Bits.eps_lt_one (EReal.coe_le_coe_iff.mpr ?_))
    calc (1 : ℝ) = k s h (row w' i) d := h1.symm
      _ ≤ winSum (fun n => k s h n d) w' :=
        Finset.single_le_sum (f := fun i => k s h (row w' i) d) (fun _ _ => hs.nonneg _ _) (Finset.mem_univ i)
      _ ≤ keys s h w' := Finset.single_le_sum (f := fun d => winSum (fun n => k s h n d) w')
        (fun _ _ => Finset.sum_nonneg fun _ _ => hs.nonneg _ _) (Finset.mem_univ d)

/-- An inactive window's similarity is 0. -/
theorem Spikes.sim_quiet {h w' : Fin 8} (hq : ¬ Active s h w') (w : Fin 8) : sim s h w w' = 0 :=
  Finset.sum_eq_zero fun d _ => by
    rw [show winSum (fun n => k s h n d) w' = 0 from Finset.sum_eq_zero fun i _ => hs.quiet hq d i, mul_zero]

/-- Scoring inactive windows with a negative number or with minus infinity takes the same windows. -/
theorem Spikes.taken_low {low : EReal} (hl : low < 0) (h w w' : Fin 8) :
    Taken (score s low h w) w' ↔ Sel s h w w' := by
  refine taken_congr (fun p r => ?_) w'
  have hpos : ∀ u, (0 : EReal) ≤ ((sim s h w u * scale : ℝ) : EReal) := fun u =>
    EReal.coe_nonneg.mpr (mul_nonneg (hs.sim_nonneg h w u) scale_pos.le)
  have hlt : ∀ u, low < ((sim s h w u * scale : ℝ) : EReal) := fun u => hl.trans_le (hpos u)
  unfold Ahead score
  by_cases hp : Active s h p <;> by_cases hr : Active s h r
  · simp only [if_pos hp, if_pos hr]
  · simp only [if_pos hp, if_neg hr]
    exact ⟨fun _ => Or.inl (EReal.bot_lt_coe _), fun _ => Or.inl (hlt p)⟩
  · simp only [if_neg hp, if_pos hr]
    constructor
    · rintro (h' | h')
      · exact absurd h' (lt_asymm (hlt r))
      · exact absurd h'.1 (hlt r).ne
    · rintro (h' | h')
      · exact absurd h' not_lt_bot
      · exact absurd h'.1 (EReal.bot_lt_coe _).ne
  · simp only [if_neg hp, if_neg hr, lt_irrefl, true_and, false_or]

end spikes

/-- Some window is always taken, so the weights of a row do not all vanish. -/
theorem weight_sum_pos (s : Block) (h : Fin 8) (n : Fin 1024) : 0 < ∑ j, weight s h n j := by
  have ht : Sel s h (win n) (pick (score s ⊥ h (win n)) 0) := (taken_iff _ _).mpr ⟨0, rfl⟩
  have hnn : ∀ j ∈ (Finset.univ : Finset (Fin 1024)), 0 ≤ weight s h n j := fun j _ => by
    unfold weight; split
    · exact (Real.exp_pos _).le
    · exact le_rfl
  refine lt_of_lt_of_le ?_ (Finset.single_le_sum hnn (Finset.mem_univ (row (pick (score s ⊥ h (win n)) 0) 0)))
  unfold weight
  rw [if_pos]
  · exact Real.exp_pos _
  · rw [show win (row (pick (score s ⊥ h (win n)) 0) 0) = pick (score s ⊥ h (win n)) 0 from
      Fin.ext (by simp [win, row])]
    exact ht

/-- 2 to a power scaled by the reciprocal of the logarithm of 2 is the exponential. -/
theorem two_rpow (a : ℝ) : Real.rpow 2 (a * (Real.log 2)⁻¹) = Real.exp a := by
  have h2 : Real.log 2 ≠ 0 := (Real.log_pos (by norm_num)).ne'
  show (2 : ℝ) ^ (a * (Real.log 2)⁻¹) = _
  rw [Real.rpow_def_of_pos (by norm_num)]
  congr 1
  field_simp

/-- A softmax taken against any shift, then averaged, is the quotient of the unshifted sums. -/
theorem softmax_mean {ι : Type} [Fintype ι] (L V : ι → ℝ) (M : ℝ) :
    (∑ g, Real.exp (L g - M) / (∑ g', Real.exp (L g' - M)) * V g) = (∑ g, Real.exp (L g) * V g) / ∑ g, Real.exp (L g) := by
  have he : ∀ g, Real.exp (L g - M) = Real.exp (L g) * Real.exp (-M) := fun g => by rw [← Real.exp_add]; rfl
  have hM := (Real.exp_pos (-M)).ne'
  simp only [he, ← Finset.sum_mul]
  rw [Finset.sum_div]
  exact Finset.sum_congr rfl fun g _ => by rw [mul_div_mul_right _ _ hM]; ring

/-- The greatest of finitely many reals is a real. -/
theorem fold_max_real {n : ℕ} (f : Fin (n + 1) → ℝ) :
    ∃ M : ℝ, (Finset.univ : Finset (Fin (n + 1))).fold max (⊥ : EReal) (fun x => (f x : EReal)) = (M : EReal) := by
  obtain ⟨i, -, hi⟩ := Finset.exists_mem_eq_sup (Finset.univ : Finset (Fin (n + 1))) Finset.univ_nonempty
    (fun x => (f x : EReal))
  exact ⟨f i, hi⟩

end Cert.Spec

end
-- ==== Proof.KRoute.lean ====
/- The kernel's routing on one block: the tables of windows and heads, the windows' sums, the scores, and the
   additive mask that keeps the four windows taken. -/
module

public import proofs.«01_k».proof.Proof.Gen.KernelIdeal.Frame
public import proofs.«01_k».proof.Proof.Facts
public import Idealize.ShloMosaic.Lib.Pointwise

@[expose] public section

set_option maxRecDepth 16384

noncomputable section

namespace Cert.KRoute

open Cert.KernelIdeal Cert.KernelIdeal.Gen Idealize.ShloMosaic Idealize.ShloMosaic.TcCoe Idealize.SL.Sem
open Cert.Spec

/-- A truth value widened and read as a number. -/
theorem sitofp_decide {φ : FTy} (p : Prop) [Decidable p] :
    (FloatOps.sitofp φ (BitVec.setWidth 32 (BitVec.ofBool (decide p))) : Ideal φ) = if p then 1 else 0 := by
  rw [Cert.Bits.sitofp_bit, coe_bit]
  exact if_congr decide_eq_true_iff rfl rfl

/-- A comparison of two words for equality, widened and read as a number. -/
theorem sitofp_eq {φ : FTy} (a b : BitVec 32) :
    (FloatOps.sitofp φ (BitVec.setWidth 32 (IntOp.cmpi .eq a b)) : Ideal φ) = (((if a = b then 1 else 0 : ℝ)) : EReal) := by
  refine (Cert.Bits.sitofp_bit (φ := φ) (decide (a = b))).trans ?_
  simp only [decide_eq_true_eq]

/-- Words of small numbers are equal when the numbers are. -/
theorem ofNat_eq {a b : ℕ} (ha : a < 4294967296) (hb : b < 4294967296) : BitVec.ofNat 32 a = BitVec.ofNat 32 b ↔ a = b := by
  constructor
  · intro h
    have := congrArg BitVec.toNat h
    simpa [BitVec.toNat_ofNat, Nat.mod_eq_of_lt ha, Nat.mod_eq_of_lt hb] using this
  · rintro rfl; rfl

/-- The table of windows: the window of each row. -/
theorem rowWin_at (n : Fin 1024) (c : Fin 8) : k0_pay3 (ix2 n c) = BitVec.ofNat 32 (n / 128) := by
  pointwise [k0_pay3]
  clear c
  revert n
  decide +kernel

/-- The table that marks each row's window, in bf16. -/
theorem mark_at (n : Fin 1024) (c : Fin 8) : k0_pay4 (F := Ideal) k0_pay3 (ix2 n c) = if win n = c then 1 else 0 := by
  have h : k0_pay3 (ix2 n c) = BitVec.ofNat 32 (n / 128) := rowWin_at n c
  pointwise [k0_pay4]
  rw [h, sitofp_eq, coe_bit]
  refine if_congr ?_ rfl rfl
  rw [ofNat_eq (by omega) (by omega)]
  exact ⟨fun h => Fin.ext h, fun h => congrArg Fin.val h⟩

/-- The table that marks each row's window, in f32. -/
theorem mark32_at (n : Fin 1024) (c : Fin 8) : k0_pay5 (F := Ideal) k0_pay3 (ix2 n c) = if win n = c then 1 else 0 := by
  have h : k0_pay3 (ix2 n c) = BitVec.ofNat 32 (n / 128) := rowWin_at n c
  pointwise [k0_pay5]
  rw [h, sitofp_eq, coe_bit]
  refine if_congr ?_ rfl rfl
  rw [ofNat_eq (by omega) (by omega)]
  exact ⟨fun h => Fin.ext h, fun h => congrArg Fin.val h⟩

/-- The column of ones. -/
theorem ones_at (n : Fin 1024) (c : Fin 1) : k0_pay6 (F := Ideal) (ix2 n c) = 1 := by
  pointwise [k0_pay6]

/-- The unit matrix over the 64 pairs of head and query window. -/
theorem eye64_at (n c : Fin 64) : k0_pay7 (F := Ideal) (ix2 n c) = if n = c then 1 else 0 := by
  pointwise [k0_pay7]
  rw [sitofp_eq, coe_bit]
  refine if_congr ?_ rfl rfl
  rw [ofNat_eq (by omega) (by omega)]
  exact ⟨fun h => Fin.ext h, fun h => congrArg Fin.val h⟩

/-- The unit matrix over the 8 windows. -/
theorem eye8_at (n c : Fin 8) : k0_pay8 (F := Ideal) (ix2 n c) = if n = c then 1 else 0 := by
  pointwise [k0_pay8]
  rw [sitofp_eq, coe_bit]
  refine if_congr ?_ rfl rfl
  rw [ofNat_eq (by omega) (by omega)]
  exact ⟨fun h => Fin.ext h, fun h => congrArg Fin.val h⟩

/-- The table that marks each column's head. -/
theorem headMark_at (n : Fin 384) (c : Fin 8) : k0_pay9 (F := Ideal) (ix2 n c) = if (n : ℕ) / 48 = c then 1 else 0 := by
  have key : ∀ n : Fin 384, Scalar.select
      (IntOp.andi
        (IntOp.cmpi .ne
          (IntOp.subi (BitVec.setWidth 32 (IntOp.cmpi .sgt (BitVec.ofNat 32 n) 0#32))
            (BitVec.setWidth 32 (IntOp.cmpi .slt (BitVec.ofNat 32 n) 0#32)))
          (Scalar.subi (Scalar.extui (Scalar.cmpi .sgt 48#32 0#32)) (Scalar.extui (Scalar.cmpi .slt 48#32 0#32))))
        (IntOp.cmpi .ne (IntOp.remsi ArithUnit.vector (BitVec.ofNat 32 n) 48#32) 0#32))
      (IntOp.subi (IntOp.divsi ArithUnit.vector (BitVec.ofNat 32 n) 48#32) 1#32)
      (IntOp.divsi ArithUnit.vector (BitVec.ofNat 32 n) 48#32) = BitVec.ofNat 32 (n / 48) := by decide +kernel
  pointwise [k0_pay9]
  rw [key, sitofp_eq, coe_bit]
  refine if_congr ?_ rfl rfl
  rw [ofNat_eq (by omega) (by omega)]

/-- The windows' sums of every column. -/
theorem sums_at (v16 : FVec Ideal S1024x1152 .bf16) (s : Block) (h16 : ∀ n c, v16 (ix2 n c) = (s n c : EReal))
    (w : Fin 8) (c : Fin 1152) :
    k0_pay10 (F := Ideal) v16 k0_pay3 (ix2 w c) = ((winSum (fun n => s n c) w : ℝ) : EReal) := by
  have hm : ∀ n, k0_pay4 (F := Ideal) k0_pay3 (ix2 n w) = if win n = w then 1 else 0 := fun n => mark_at n w
  pointwise [k0_pay10]
  rw [← sum_win, coe_sum]
  refine Finset.sum_congr rfl fun n _ => ?_
  rw [hm, h16]
  split <;> simp

/-- The windows' sums of the key columns. -/
theorem keySums_at (v16 : FVec Ideal S1024x1152 .bf16) (s : Block) (h16 : ∀ n c, v16 (ix2 n c) = (s n c : EReal))
    (w : Fin 8) (c : Fin 384) :
    k0_pay11 (F := Ideal) v16 k0_pay3 (ix2 w c) = ((winSum (fun n => s n ⟨384 + c, by omega⟩) w : ℝ) : EReal) :=
  (show k0_pay11 (F := Ideal) v16 k0_pay3 (ix2 w c) = k0_pay10 (F := Ideal) v16 k0_pay3 (ix2 w ⟨384 + c, by omega⟩) by
    pointwise [k0_pay11]).trans (sums_at v16 s h16 w _)

/-- The key spikes counted by window and head. -/
theorem counts_at (v16 : FVec Ideal S1024x1152 .bf16) (s : Block) (h16 : ∀ n c, v16 (ix2 n c) = (s n c : EReal))
    (h w : Fin 8) :
    k0_pay12 (F := Ideal) k0_pay8 k0_pay9 (k0_pay11 (F := Ideal) v16 k0_pay3) (ix2 h w) = ((keys s h w : ℝ) : EReal) := by
  have h9 : ∀ n, k0_pay9 (F := Ideal) (ix2 n h) = if (n : ℕ) / 48 = h then 1 else 0 := fun n => headMark_at n h
  have h8 : ∀ n, k0_pay8 (F := Ideal) (ix2 n w) = if n = w then 1 else 0 := fun n => eye8_at n w
  have h11 := keySums_at v16 s h16
  generalize k0_pay11 (F := Ideal) v16 k0_pay3 = v92 at h11 ⊢
  generalize (k0_pay9 (F := Ideal)) = v90 at h9 ⊢
  generalize (k0_pay8 (F := Ideal)) = v61 at h8 ⊢
  pointwise [k0_pay12]
  simp only [h8, h9, h11, mul_ite, mul_one, mul_zero, Finset.sum_ite_eq', Finset.mem_univ, if_true]
  rw [Fin.sum_univ_tiles 8 48 rfl, Finset.sum_eq_single h]
  · unfold keys
    rw [coe_sum]
    refine Finset.sum_congr rfl fun d _ => ?_
    rw [if_pos (by simp only; omega)]
    refine congrArg _ (congrArg (fun f => winSum f w) (funext fun n => ?_))
    unfold k
    exact congrArg (s n) (Fin.ext (by simp only; omega))
  · intro h' _ hne
    refine Finset.sum_eq_zero fun d _ => if_neg fun he => hne (Fin.ext ?_)
    rw [← he]; simp only; omega
  · simp

/-- One head's scores, from the windows' sums and the counts of key spikes. -/
def piece (oq ok oa : ℕ) (hq : S8x1152.Slices ![0, oq] S8x48) (hk : S8x1152.Slices ![0, ok] S8x48)
    (ha : S8x8.Slices ![oa, 0] S1x8) (v91 : FVec Ideal S8x1152 .f32) (v94 : FVec Ideal S8x8 .f32) : FVec Ideal S8x8 .f32 :=
  addf (mulf (matmul dot_S8x48_S8x48_S8x8_1_1_0_0_n_n none (extractStridedSlice S8x48 ![0, oq] v91 hq)
      (extractStridedSlice S8x48 ![0, ok] v91 hk) (constant S8x8 .f32 0x00000000#32))
      (broadcast S8x8 (Named.named κ "scale" 0x3E13CD3A#32)))
    (broadcastTo S8x8 (mulf (subf (broadcast S1x8 (Scalar.ofBits .f32 0x3F800000#32))
      (sitofp .f32 (extui 32 (cmpf .ogt (extractStridedSlice S1x8 ![oa, 0] v94 ha)
        (broadcast S1x8 (Scalar.ofBits .f32 0x3727C5AC#32))) natLt_1_32)))
      (broadcast S1x8 (Named.named κ "mask" 0xCE6E6B28#32))) broadcasts_S1x8_S8x8)

/-- The scale of the scores is 1 over the root of 48. -/
theorem scale_val : (Named.named (F := Ideal) Cert.KernelIdeal.κ "scale" (φ := .f32) 0x3E13CD3A#32) = (scale : EReal) :=
  IdealRules.named_const.ideal_named_scalar _ _ _ _ rfl

/-- The mask is minus infinity. -/
theorem mask_val : (Named.named (F := Ideal) Cert.KernelIdeal.κ "mask" (φ := .f32) 0xCE6E6B28#32) = (⊥ : EReal) :=
  IdealRules.named_const.ideal_named_scalar _ _ _ _ rfl

/-- 1 less 1 is 0. -/
theorem one_sub_one : (1 : EReal) - 1 = 0 := by
  rw [← EReal.coe_one, ← EReal.coe_sub, sub_self, EReal.coe_zero]

/-- One head's scores are the routing scores with minus infinity for inactive windows. -/
theorem piece_at (oq ok oa : ℕ) (hq : S8x1152.Slices ![0, oq] S8x48) (hk : S8x1152.Slices ![0, ok] S8x48)
    (ha : S8x8.Slices ![oa, 0] S1x8) (v91 : FVec Ideal S8x1152 .f32) (v94 : FVec Ideal S8x8 .f32)
    (s : Block) (h91 : ∀ w c, v91 (ix2 w c) = ((winSum (fun n => s n c) w : ℝ) : EReal))
    (h94 : ∀ h w, v94 (ix2 h w) = ((keys s h w : ℝ) : EReal)) (h : Fin 8) (eq : oq = h * 48) (ek : ok = 384 + h * 48)
    (ea : oa = h) (w w' : Fin 8) :
    piece oq ok oa hq hk ha v91 v94 (ix2 w w') = score s ⊥ h w w' := by
  subst eq ek ea
  pointwise [piece]
  rw [scale_val, mask_val]
  simp only [h91, h94, ← EReal.coe_mul]
  rw [← coe_sum, ← EReal.coe_mul, sitofp_decide]
  unfold score
  by_cases ha : Active s h w'
  · have ha' : Ideal.ofBits .f32 0x3727C5AC#32 < ((keys s h w' : ℝ) : EReal) := ha
    simp only [if_pos ha, if_pos ha', one_sub_one, zero_mul, add_zero]
    rfl
  · have ha' : ¬ Ideal.ofBits .f32 0x3727C5AC#32 < ((keys s h w' : ℝ) : EReal) := ha
    simp only [if_neg ha, if_neg ha', sub_zero, one_mul, EReal.add_bot]

/-- The heads' scores stacked, row `8 h + w` for head `h` and query window `w`. -/
def stack (v91 : FVec Ideal S8x1152 .f32) (v94 : FVec Ideal S8x8 .f32) : FVec Ideal S64x8 .f32 :=
  k0_pay22 (F := Ideal) v91 v94
    (piece 0 384 0 slices_S8x1152_o0_0_S8x48 slices_S8x1152_o0_384_S8x48 slices_S8x8_o0_0_S1x8 v91 v94)
    (piece 48 432 1 slices_S8x1152_o0_48_S8x48 slices_S8x1152_o0_432_S8x48 slices_S8x8_o1_0_S1x8 v91 v94)
    (piece 96 480 2 slices_S8x1152_o0_96_S8x48 slices_S8x1152_o0_480_S8x48 slices_S8x8_o2_0_S1x8 v91 v94)
    (piece 144 528 3 slices_S8x1152_o0_144_S8x48 slices_S8x1152_o0_528_S8x48 slices_S8x8_o3_0_S1x8 v91 v94)
    (piece 192 576 4 slices_S8x1152_o0_192_S8x48 slices_S8x1152_o0_576_S8x48 slices_S8x8_o4_0_S1x8 v91 v94)
    (k0_pay20 (F := Ideal) v91) (k0_pay21 (F := Ideal) v94) (Named.named κ "scale" 0x3E13CD3A#32)

/-- The stacked scores as one list of heads. -/
theorem stack_eq (v91 : FVec Ideal S8x1152 .f32) (v94 : FVec Ideal S8x8 .f32) :
    stack v91 v94 = concatenate S64x8 0
      [⟨S8x8, piece 0 384 0 slices_S8x1152_o0_0_S8x48 slices_S8x1152_o0_384_S8x48 slices_S8x8_o0_0_S1x8 v91 v94⟩,
       ⟨S8x8, piece 48 432 1 slices_S8x1152_o0_48_S8x48 slices_S8x1152_o0_432_S8x48 slices_S8x8_o1_0_S1x8 v91 v94⟩,
       ⟨S8x8, piece 96 480 2 slices_S8x1152_o0_96_S8x48 slices_S8x1152_o0_480_S8x48 slices_S8x8_o2_0_S1x8 v91 v94⟩,
       ⟨S8x8, piece 144 528 3 slices_S8x1152_o0_144_S8x48 slices_S8x1152_o0_528_S8x48 slices_S8x8_o3_0_S1x8 v91 v94⟩,
       ⟨S8x8, piece 192 576 4 slices_S8x1152_o0_192_S8x48 slices_S8x1152_o0_576_S8x48 slices_S8x8_o4_0_S1x8 v91 v94⟩,
       ⟨S8x8, piece 240 624 5 slices_S8x1152_o0_240_S8x48 slices_S8x1152_o0_624_S8x48 slices_S8x8_o5_0_S1x8 v91 v94⟩,
       ⟨S8x8, piece 288 672 6 slices_S8x1152_o0_288_S8x48 slices_S8x1152_o0_672_S8x48 slices_S8x8_o6_0_S1x8 v91 v94⟩,
       ⟨S8x8, piece 336 720 7 slices_S8x1152_o0_336_S8x48 slices_S8x1152_o0_720_S8x48 slices_S8x8_o7_0_S1x8 v91 v94⟩]
      concatenates_S8x8_S8x8_S8x8_S8x8_S8x8_S8x8_S8x8_S8x8_S64x8_d0 := rfl

/-- The stack's row `8 h + w` holds head `h`'s scores for query window `w`. -/
theorem stack_at (v91 : FVec Ideal S8x1152 .f32) (v94 : FVec Ideal S8x8 .f32)
    (s : Block) (h91 : ∀ w c, v91 (ix2 w c) = ((winSum (fun n => s n c) w : ℝ) : EReal))
    (h94 : ∀ h w, v94 (ix2 h w) = ((keys s h w : ℝ) : EReal)) (r : Fin 64) (w' : Fin 8) :
    stack v91 v94 (ix2 r w') = score s ⊥ ⟨r / 8, by omega⟩ ⟨r % 8, by omega⟩ w' := by
  rw [stack_eq]
  have h0 := piece_at 0 384 0 slices_S8x1152_o0_0_S8x48 slices_S8x1152_o0_384_S8x48 slices_S8x8_o0_0_S1x8 v91 v94 s h91 h94 ⟨0, by decide⟩ rfl rfl rfl
  have h1 := piece_at 48 432 1 slices_S8x1152_o0_48_S8x48 slices_S8x1152_o0_432_S8x48 slices_S8x8_o1_0_S1x8 v91 v94 s h91 h94 ⟨1, by decide⟩ rfl rfl rfl
  have h2 := piece_at 96 480 2 slices_S8x1152_o0_96_S8x48 slices_S8x1152_o0_480_S8x48 slices_S8x8_o2_0_S1x8 v91 v94 s h91 h94 ⟨2, by decide⟩ rfl rfl rfl
  have h3 := piece_at 144 528 3 slices_S8x1152_o0_144_S8x48 slices_S8x1152_o0_528_S8x48 slices_S8x8_o3_0_S1x8 v91 v94 s h91 h94 ⟨3, by decide⟩ rfl rfl rfl
  have h4 := piece_at 192 576 4 slices_S8x1152_o0_192_S8x48 slices_S8x1152_o0_576_S8x48 slices_S8x8_o4_0_S1x8 v91 v94 s h91 h94 ⟨4, by decide⟩ rfl rfl rfl
  have h5 := piece_at 240 624 5 slices_S8x1152_o0_240_S8x48 slices_S8x1152_o0_624_S8x48 slices_S8x8_o5_0_S1x8 v91 v94 s h91 h94 ⟨5, by decide⟩ rfl rfl rfl
  have h6 := piece_at 288 672 6 slices_S8x1152_o0_288_S8x48 slices_S8x1152_o0_672_S8x48 slices_S8x8_o6_0_S1x8 v91 v94 s h91 h94 ⟨6, by decide⟩ rfl rfl rfl
  have h7 := piece_at 336 720 7 slices_S8x1152_o0_336_S8x48 slices_S8x1152_o0_720_S8x48 slices_S8x8_o7_0_S1x8 v91 v94 s h91 h94 ⟨7, by decide⟩ rfl rfl rfl
  generalize piece 0 384 0 _ _ _ v91 v94 = p0 at h0 ⊢
  generalize piece 48 432 1 _ _ _ v91 v94 = p1 at h1 ⊢
  generalize piece 96 480 2 _ _ _ v91 v94 = p2 at h2 ⊢
  generalize piece 144 528 3 _ _ _ v91 v94 = p3 at h3 ⊢
  generalize piece 192 576 4 _ _ _ v91 v94 = p4 at h4 ⊢
  generalize piece 240 624 5 _ _ _ v91 v94 = p5 at h5 ⊢
  generalize piece 288 672 6 _ _ _ v91 v94 = p6 at h6 ⊢
  generalize piece 336 720 7 _ _ _ v91 v94 = p7 at h7 ⊢
  pointwise []
  simp only [h0, h1, h2, h3, h4, h5, h6, h7]
  split_ifs <;> exact congrArg₂ (fun a b => score s ⊥ a b w') (Fin.ext (by dsimp only; omega)) (Fin.ext (by dsimp only; omega))

/-- One step of the count of the windows taken before: `p` is tested against every window. -/
def step (p : ℕ) (hs : S64x8.Slices ![0, p] S64x1) (S : FVec Ideal S64x8 .f32) (cnt : FVec Ideal S64x8 .f32) :
    FVec Ideal S64x8 .f32 :=
  addf (addf cnt (sitofp .f32 (extui 32 (cmpf .ogt (broadcastTo S64x8 (extractStridedSlice S64x1 ![0, p] S hs)
      broadcasts_S64x1_S64x8) S) natLt_1_32)))
    (sitofp .f32 (extui 32 (andi (cmpf .oeq (broadcastTo S64x8 (extractStridedSlice S64x1 ![0, p] S hs)
      broadcasts_S64x1_S64x8) S) (cmpi .sgt (iota .tc S64x8 32 [1] iota_S64x8_d1_w32) (broadcast S64x8 (BitVec.ofNat 32 p))))
      natLt_1_32))

/-- The windows taken, as 0 and 1. -/
def chosen (S : FVec Ideal S64x8 .f32) : FVec Ideal S64x8 .f32 :=
  sitofp .f32 (extui 32 (cmpf .olt
    (step 7 slices_S64x8_o0_7_S64x1 S (step 6 slices_S64x8_o0_6_S64x1 S (step 5 slices_S64x8_o0_5_S64x1 S
      (step 4 slices_S64x8_o0_4_S64x1 S (step 3 slices_S64x8_o0_3_S64x1 S (step 2 slices_S64x8_o0_2_S64x1 S
        (step 1 slices_S64x8_o0_1_S64x1 S (step 0 slices_S64x8_o0_0_S64x1 S
          (broadcast S64x8 (Scalar.ofBits .f32 0x00000000#32))))))))))
    (broadcast S64x8 (Scalar.ofBits .f32 0x40800000#32))) natLt_1_32)

/-- A signed comparison of small words is a comparison of numbers. -/
theorem sgt_small (p : ℕ) (hp : p < 8) (w : Fin 8) :
    IntOp.cmpi .sgt (BitVec.ofNat 32 w) (BitVec.ofNat 32 p) = BitVec.ofBool (decide (p < (w : ℕ))) := by
  have key : ∀ p w : Fin 8, IntOp.cmpi .sgt (BitVec.ofNat 32 w) (BitVec.ofNat 32 p)
      = BitVec.ofBool (decide ((p : ℕ) < (w : ℕ))) := by decide +kernel
  exact key ⟨p, hp⟩ w

/-- The conjunction of two truth values. -/
theorem andi_decide (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

open Classical in
/-- A step adds 1 for the windows that `p` is taken before. -/
theorem step_at (p : ℕ) (hp : p < 8) (hs : S64x8.Slices ![0, p] S64x1) (S cnt : FVec Ideal S64x8 .f32) (r : Fin 64) (w : Fin 8)
    (x : ℝ) (hc : cnt (ix2 r w) = (x : EReal)) :
    step p hs S cnt (ix2 r w)
      = ((x + (if Ahead (fun u => S (ix2 r u)) ⟨p, hp⟩ w then 1 else 0) : ℝ) : EReal) := by
  pointwise [step]
  rw [hc, sgt_small p hp w, andi_decide, sitofp_decide, sitofp_decide, EReal.coe_add, coe_bit, add_assoc]
  refine congrArg _ ?_
  unfold Ahead
  rcases lt_trichotomy (S (ix2 r w)) (S (ix2 r ⟨p, hp⟩)) with hlt | heq | hgt
  · simp [hlt, hlt.ne']
  · simp [heq, Fin.lt_def]
  · simp [hgt.ne, hgt.not_gt]

open Classical in
/-- The kernel takes the windows that are taken. -/
theorem chosen_at (S : FVec Ideal S64x8 .f32) (r : Fin 64) (w : Fin 8) :
    chosen S (ix2 r w) = if Taken (fun u => S (ix2 r u)) w then 1 else 0 := by
  have h0 : broadcast S64x8 (Scalar.ofBits (F := Ideal) .f32 0x00000000#32) (ix2 r w) = ((0 : ℝ) : EReal) := by
    pointwise []
    exact EReal.coe_zero.symm
  have h1 := step_at 0 (by decide) slices_S64x8_o0_0_S64x1 S _ r w _ h0
  have h2 := step_at 1 (by decide) slices_S64x8_o0_1_S64x1 S _ r w _ h1
  have h3 := step_at 2 (by decide) slices_S64x8_o0_2_S64x1 S _ r w _ h2
  have h4 := step_at 3 (by decide) slices_S64x8_o0_3_S64x1 S _ r w _ h3
  have h5 := step_at 4 (by decide) slices_S64x8_o0_4_S64x1 S _ r w _ h4
  have h6 := step_at 5 (by decide) slices_S64x8_o0_5_S64x1 S _ r w _ h5
  have h7 := step_at 6 (by decide) slices_S64x8_o0_6_S64x1 S _ r w _ h6
  have h8 := step_at 7 (by decide) slices_S64x8_o0_7_S64x1 S _ r w _ h7
  unfold chosen
  generalize step 7 _ _ _ = cnt at h8 ⊢
  pointwise []
  rw [h8, sitofp_decide, Cert.Bits.four]
  refine if_congr (EReal.coe_lt_coe_iff.trans ?_) rfl rfl
  unfold Taken rank
  refine Iff.trans ?_ (Nat.cast_lt (α := ℝ))
  rw [Finset.card_filter, Fin.sum_univ_eight]
  push_cast
  rw [zero_add]

/-- The kernel's additive mask, by key row and by head and query window. -/
theorem mask_at (S : FVec Ideal S64x8 .f32) (j : Fin 1024) (r : Fin 64) [Decidable (Taken (fun u => S (ix2 r u)) (win j))] :
    k0_pay30 (F := Ideal) (k0_pay5 (F := Ideal) k0_pay3) (k0_pay7 (F := Ideal)) (chosen S) (ix2 j r)
      = if Taken (fun u => S (ix2 r u)) (win j) then (0 : EReal) else ⊥ := by
  have h5 : ∀ c, k0_pay5 (F := Ideal) k0_pay3 (ix2 j c) = if win j = c then 1 else 0 := fun c => mark32_at j c
  have h7 : ∀ n, k0_pay7 (F := Ideal) (ix2 n r) = if n = r then 1 else 0 := fun n => eye64_at n r
  have hc := chosen_at S
  generalize chosen S = v340 at hc ⊢
  generalize k0_pay5 (F := Ideal) k0_pay3 = v49 at h5 ⊢
  generalize (k0_pay7 (F := Ideal)) = v56 at h7 ⊢
  pointwise [k0_pay30]
  simp only [h5, h7, hc, mask_val, mul_ite, mul_one, mul_zero, ite_mul, one_mul, zero_mul, Finset.sum_ite_eq, Finset.sum_ite_eq',
    Finset.mem_univ, if_true]
  by_cases ht : Taken (fun u => S (ix2 r u)) (win j)
  · simp only [if_pos ht, one_sub_one, zero_mul]
  · simp only [if_neg ht, sub_zero, one_mul]

end Cert.KRoute

end
-- ==== Proof.KHead.lean ====
/- The kernel's attention on one block, head by head, and the block's result. -/
module

public import proofs.«01_k».proof.Proof.KRoute

@[expose] public section

set_option maxRecDepth 16384

noncomputable section

namespace Cert.KHead

open Cert.KernelIdeal Cert.KernelIdeal.Gen Idealize.ShloMosaic Idealize.ShloMosaic.TcCoe Idealize.SL.Sem
open Cert.Spec Cert.KRoute

/-- The scale of the queries: the scale of the scores over the logarithm of 2. -/
theorem qscale_val : (Named.named (F := Ideal) Cert.KernelIdeal.κ "qscale" (φ := .bf16) 0x3E55#16)
    = ((scale * (Real.log 2)⁻¹ : ℝ) : EReal) :=
  IdealRules.named_const.ideal_named_scalar _ _ _ _ rfl

/-- One head's exponentials, in base 2, of the masked scores. -/
def expos (v46 : FVec Ideal S1024x8 .bf16) (q k : FVec Ideal S1024x48 .bf16) (neg : FVec Ideal S1024x8 .bf16) :
    FVec Ideal S1024x1024 .bf16 :=
  truncf .bf16 (exp2 (matmul dot_S1024x56_S1024x56_S1024x1024_1_1_0_0_n_n none
    (concatenate S1024x56 1 [⟨S1024x48, mulf q (broadcast S1024x48 (Named.named κ "qscale" 0x3E55#16))⟩, ⟨S1024x8, v46⟩]
      concatenates_S1024x48_S1024x8_S1024x56_d1)
    (concatenate S1024x56 1 [⟨S1024x48, k⟩, ⟨S1024x8, neg⟩] concatenates_S1024x48_S1024x8_S1024x56_d1)
    (constant S1024x1024 .f32 0x00000000#32))) bitsLt_bf16_f32

/-- One head's weighted sums of the values, with the sum of the weights as a last column. -/
def sums (v50 : FVec Ideal S1024x1 .bf16) (e : FVec Ideal S1024x1024 .bf16) (v : FVec Ideal S1024x48 .bf16) :
    FVec Ideal S1024x49 .f32 :=
  matmul dot_S1024x1024_S1024x49_S1024x49_1_0_0_1_n_n none e
    (concatenate S1024x49 1 [⟨S1024x48, v⟩, ⟨S1024x1, v50⟩] concatenates_S1024x48_S1024x1_S1024x49_d1)
    (constant S1024x49 .f32 0x00000000#32)

/-- One head's result: the weighted sums over the sum of the weights. -/
def quot (num : FVec Ideal S1024x49 .f32) : FVec Ideal S1024x48 .f32 :=
  mulf (extractStridedSlice S1024x48 ![0, 0] num slices_S1024x49_o0_0_S1024x48)
    (broadcastTo S1024x48 (divf (broadcast S1024x1 (Scalar.ofBits .f32 0x3F800000#32))
      (extractStridedSlice S1024x1 ![0, 48] num slices_S1024x49_o0_48_S1024x1)) broadcasts_S1024x1_S1024x48)

/-- The sums of one head, from the block's spikes and the additive mask. -/
def headSums (oq ok ov on : ℕ) (hq : S1024x1152.Slices ![0, oq] S1024x48) (hk : S1024x1152.Slices ![0, ok] S1024x48)
    (hv : S1024x1152.Slices ![0, ov] S1024x48) (hn : S1024x64.Slices ![0, on] S1024x8)
    (v16 : FVec Ideal S1024x1152 .bf16) (v46 : FVec Ideal S1024x8 .bf16) (v50 : FVec Ideal S1024x1 .bf16)
    (v347 : FVec Ideal S1024x64 .bf16) : FVec Ideal S1024x49 .f32 :=
  sums v50 (expos v46 (extractStridedSlice S1024x48 ![0, oq] v16 hq) (extractStridedSlice S1024x48 ![0, ok] v16 hk)
    (extractStridedSlice S1024x8 ![0, on] v347 hn)) (extractStridedSlice S1024x48 ![0, ov] v16 hv)

/-- A head's result projected and added to what the heads before it gave. -/
def proj (o : ℕ) (h : S384x384.Slices ![0, o] S384x48) (W : FVec Ideal S384x384 .f32) (out : FVec Ideal S1024x48 .f32)
    (acc : FVec Ideal S1024x384 .f32) : FVec Ideal S1024x384 .f32 :=
  addf acc (matmul dot_S1024x48_S384x48_S1024x384_1_1_0_0_n_n none out (extractStridedSlice S384x48 ![0, o] W h)
    (constant S1024x384 .f32 0x00000000#32))

/-- All eight heads, projected and added up from zero. -/
def allHeads (v16 : FVec Ideal S1024x1152 .bf16) (v46 : FVec Ideal S1024x8 .bf16) (v50 : FVec Ideal S1024x1 .bf16)
    (v347 : FVec Ideal S1024x64 .bf16) (W : FVec Ideal S384x384 .f32) : FVec Ideal S1024x384 .f32 :=
  proj 336 slices_S384x384_o0_336_S384x48 W (quot (headSums 336 720 1104 56 slices_S1024x1152_o0_336_S1024x48
    slices_S1024x1152_o0_720_S1024x48 slices_S1024x1152_o0_1104_S1024x48 slices_S1024x64_o0_56_S1024x8 v16 v46 v50 v347)) <|
  proj 288 slices_S384x384_o0_288_S384x48 W (quot (headSums 288 672 1056 48 slices_S1024x1152_o0_288_S1024x48
    slices_S1024x1152_o0_672_S1024x48 slices_S1024x1152_o0_1056_S1024x48 slices_S1024x64_o0_48_S1024x8 v16 v46 v50 v347)) <|
  proj 240 slices_S384x384_o0_240_S384x48 W (quot (headSums 240 624 1008 40 slices_S1024x1152_o0_240_S1024x48
    slices_S1024x1152_o0_624_S1024x48 slices_S1024x1152_o0_1008_S1024x48 slices_S1024x64_o0_40_S1024x8 v16 v46 v50 v347)) <|
  proj 192 slices_S384x384_o0_192_S384x48 W (quot (headSums 192 576 960 32 slices_S1024x1152_o0_192_S1024x48
    slices_S1024x1152_o0_576_S1024x48 slices_S1024x1152_o0_960_S1024x48 slices_S1024x64_o0_32_S1024x8 v16 v46 v50 v347)) <|
  proj 144 slices_S384x384_o0_144_S384x48 W (quot (headSums 144 528 912 24 slices_S1024x1152_o0_144_S1024x48
    slices_S1024x1152_o0_528_S1024x48 slices_S1024x1152_o0_912_S1024x48 slices_S1024x64_o0_24_S1024x8 v16 v46 v50 v347)) <|
  proj 96 slices_S384x384_o0_96_S384x48 W (quot (headSums 96 480 864 16 slices_S1024x1152_o0_96_S1024x48
    slices_S1024x1152_o0_480_S1024x48 slices_S1024x1152_o0_864_S1024x48 slices_S1024x64_o0_16_S1024x8 v16 v46 v50 v347)) <|
  proj 48 slices_S384x384_o0_48_S384x48 W (quot (headSums 48 432 816 8 slices_S1024x1152_o0_48_S1024x48
    slices_S1024x1152_o0_432_S1024x48 slices_S1024x1152_o0_816_S1024x48 slices_S1024x64_o0_8_S1024x8 v16 v46 v50 v347)) <|
  proj 0 slices_S384x384_o0_0_S384x48 W (quot (headSums 0 384 768 0 slices_S1024x1152_o0_0_S1024x48
    slices_S1024x1152_o0_384_S1024x48 slices_S1024x1152_o0_768_S1024x48 slices_S1024x64_o0_0_S1024x8 v16 v46 v50 v347)) <|
  broadcast S1024x384 (Scalar.ofBits .f32 0x00000000#32)

/-- The body's value before the last firing: the projected heads and the bias. -/
def before (x0 : Vec Ideal S1024x384 .f32) (x1 : Vec Ideal S1152x384 .f32) (x2 : Vec Ideal S1x1152 .f32)
    (x3 : Vec Ideal S384x384 .f32) (x4 : Vec Ideal S1x384 .f32) : FVec Ideal S1024x384 .f32 :=
  let v16 := k0_pay2 (F := Ideal) x0 x1 x2
  addf (allHeads v16 (k0_pay4 (F := Ideal) k0_pay3) (k0_pay6 (F := Ideal))
      (k0_pay30 (F := Ideal) (k0_pay5 (F := Ideal) k0_pay3) (k0_pay7 (F := Ideal))
        (chosen (stack (k0_pay10 (F := Ideal) v16 k0_pay3)
          (k0_pay12 (F := Ideal) k0_pay8 k0_pay9 (k0_pay11 (F := Ideal) v16 k0_pay3)))))
      x3)
    (broadcastTo S1024x384 (shapeCast S1x384 x4 shapeCasts_S1x384_S1x384) broadcasts_S1x384_S1024x384)

/-- The exponentials of one head are the attention weights. -/
theorem expos_at (v46 : FVec Ideal S1024x8 .bf16) (q' k' : FVec Ideal S1024x48 .bf16) (neg : FVec Ideal S1024x8 .bf16)
    (s : Block) (h : Fin 8) (h46 : ∀ n w, v46 (ix2 n w) = if win n = w then 1 else 0)
    (hq : ∀ n d, q' (ix2 n d) = ((q s h n d : ℝ) : EReal)) (hk : ∀ n d, k' (ix2 n d) = ((k s h n d : ℝ) : EReal))
    (hn : ∀ j w, neg (ix2 j w) = (by classical exact if Sel s h w (win j) then (0 : EReal) else ⊥)) (n j : Fin 1024) :
    expos v46 q' k' neg (ix2 n j) = ((weight s h n j : ℝ) : EReal) := by
  classical
  pointwise [expos]
  simp only [h46, hn, hq, hk, qscale_val, ite_mul, one_mul, zero_mul, Finset.sum_ite_eq, Finset.mem_univ, if_true,
    ← EReal.coe_mul]
  rw [← coe_sum]
  show Ideal.exp2 _ = _
  unfold weight
  by_cases hs : Sel s h (win n) (win j)
  · rw [if_pos hs, if_pos hs, add_zero, Ideal.exp2_coe]
    refine congrArg _ (Eq.trans ?_ (two_rpow _))
    refine congrArg _ ?_
    rw [mul_assoc, Finset.sum_mul]
    exact Finset.sum_congr rfl fun d _ => by ring
  · rw [if_neg hs, if_neg hs, EReal.add_bot, Ideal.exp2_bot]
    rfl

/-- One head's sums over its values are real. -/
theorem sums_val (v50 : FVec Ideal S1024x1 .bf16) (e : FVec Ideal S1024x1024 .bf16) (v' : FVec Ideal S1024x48 .bf16)
    (wt : Fin 1024 → Fin 1024 → ℝ) (vv : Fin 1024 → Fin 48 → ℝ) (he : ∀ n j, e (ix2 n j) = (wt n j : EReal))
    (hv : ∀ n d, v' (ix2 n d) = (vv n d : EReal)) (n : Fin 1024) (d : Fin 48) :
    sums v50 e v' (ix2 n ⟨d, by omega⟩) = ((∑ j, wt n j * vv j d : ℝ) : EReal) := by
  pointwise [sums]
  rw [coe_sum]
  refine Finset.sum_congr rfl fun j _ => ?_
  rw [he, hv, EReal.coe_mul]

/-- One head's last column is the sum of the weights. -/
theorem sums_one (v50 : FVec Ideal S1024x1 .bf16) (e : FVec Ideal S1024x1024 .bf16) (v' : FVec Ideal S1024x48 .bf16)
    (wt : Fin 1024 → Fin 1024 → ℝ) (he : ∀ n j, e (ix2 n j) = (wt n j : EReal))
    (h50 : ∀ n c, v50 (ix2 n c) = 1) (n : Fin 1024) :
    sums v50 e v' (ix2 n 48) = ((∑ j, wt n j : ℝ) : EReal) := by
  pointwise [sums]
  rw [coe_sum]
  refine Finset.sum_congr rfl fun j _ => ?_
  rw [he]
  simp [h50]

/-- A quotient of two real columns. -/
theorem quot_at (num : FVec Ideal S1024x49 .f32) (n : Fin 1024) (d : Fin 48) (a b : ℝ) (hb : b ≠ 0)
    (ha : num (ix2 n ⟨d, by omega⟩) = (a : EReal)) (hd : num (ix2 n 48) = (b : EReal)) :
    quot num (ix2 n d) = ((a / b : ℝ) : EReal) := by
  pointwise [quot]
  rw [ha, hd, Ideal.div_coe hb, one_mul, ← EReal.coe_mul, mul_one_div]

/-- One head's result is the attention. -/
theorem head_at (oq ok ov on : ℕ) (hq : S1024x1152.Slices ![0, oq] S1024x48) (hk : S1024x1152.Slices ![0, ok] S1024x48)
    (hv : S1024x1152.Slices ![0, ov] S1024x48) (hn : S1024x64.Slices ![0, on] S1024x8)
    (v16 : FVec Ideal S1024x1152 .bf16) (v46 : FVec Ideal S1024x8 .bf16) (v50 : FVec Ideal S1024x1 .bf16)
    (v347 : FVec Ideal S1024x64 .bf16) (s : Block) (h16 : ∀ n c, v16 (ix2 n c) = (s n c : EReal))
    (h46 : ∀ n w, v46 (ix2 n w) = if win n = w then 1 else 0) (h50 : ∀ n c, v50 (ix2 n c) = 1)
    (h347 : ∀ j (r : Fin 64), v347 (ix2 j r)
      = (by classical exact if Sel s ⟨r / 8, by omega⟩ ⟨r % 8, by omega⟩ (win j) then (0 : EReal) else ⊥))
    (h : Fin 8) (eq : oq = h * 48) (ek : ok = 384 + h * 48) (ev : ov = 768 + h * 48) (en : on = h * 8) (n : Fin 1024) (d : Fin 48) :
    quot (headSums oq ok ov on hq hk hv hn v16 v46 v50 v347) (ix2 n d) = ((att s h n d : ℝ) : EReal) := by
  subst eq ek ev en
  unfold headSums
  have he := expos_at v46 (extractStridedSlice S1024x48 ![0, (h : ℕ) * 48] v16 hq)
    (extractStridedSlice S1024x48 ![0, 384 + (h : ℕ) * 48] v16 hk) (extractStridedSlice S1024x8 ![0, (h : ℕ) * 8] v347 hn) s h h46
    (fun n d => by pointwise []; exact h16 n _) (fun n d => by pointwise []; exact h16 n _)
    (fun j w => by
      classical
      pointwise []
      refine (h347 j _).trans (if_congr (Eq.to_iff ?_) rfl rfl)
      exact congrArg₂ (fun a b => Sel s a b (win j)) (Fin.ext (by dsimp only; omega)) (Fin.ext (by dsimp only; omega)))
  exact quot_at _ n d _ _ (weight_sum_pos s h n).ne'
    (sums_val v50 _ _ (weight s h) (v s h) he (fun n d => by pointwise []; exact h16 n _) n d)
    (sums_one v50 _ _ (weight s h) he h50 n)

/-- A projected head added to the sum so far. -/
theorem proj_at (o : ℕ) (ho : S384x384.Slices ![0, o] S384x48) (W : FVec Ideal S384x384 .f32) (out : FVec Ideal S1024x48 .f32)
    (acc : FVec Ideal S1024x384 .f32) (s : Block) (h : Fin 8) (eo : o = h * 48)
    (hout : ∀ n d, out (ix2 n d) = ((att s h n d : ℝ) : EReal)) (n : Fin 1024) (c : Fin 384) :
    proj o ho W out acc (ix2 n c)
      = acc (ix2 n c) + ∑ d : Fin 48, ((att s h n d : ℝ) : EReal) * W (ix2 c ⟨h * 48 + d, by omega⟩) := by
  subst eo
  pointwise [proj]
  simp only [hout]

/-- One head, from the block's spikes to what it adds to the projection. -/
theorem turn_at (o ok ov on : ℕ) (ho : S384x384.Slices ![0, o] S384x48) (hq : S1024x1152.Slices ![0, o] S1024x48)
    (hk : S1024x1152.Slices ![0, ok] S1024x48)
    (hv : S1024x1152.Slices ![0, ov] S1024x48) (hn : S1024x64.Slices ![0, on] S1024x8)
    (v16 : FVec Ideal S1024x1152 .bf16) (v46 : FVec Ideal S1024x8 .bf16) (v50 : FVec Ideal S1024x1 .bf16)
    (v347 : FVec Ideal S1024x64 .bf16) (W : FVec Ideal S384x384 .f32) (s : Block) (h16 : ∀ n c, v16 (ix2 n c) = (s n c : EReal))
    (h46 : ∀ n w, v46 (ix2 n w) = if win n = w then 1 else 0) (h50 : ∀ n c, v50 (ix2 n c) = 1)
    (h347 : ∀ j (r : Fin 64), v347 (ix2 j r)
      = (by classical exact if Sel s ⟨r / 8, by omega⟩ ⟨r % 8, by omega⟩ (win j) then (0 : EReal) else ⊥))
    (acc : FVec Ideal S1024x384 .f32)
    (h : Fin 8) (eo : o = h * 48) (ek : ok = 384 + h * 48) (ev : ov = 768 + h * 48) (en : on = h * 8) (n : Fin 1024) (c : Fin 384) :
    proj o ho W (quot (headSums o ok ov on hq hk hv hn v16 v46 v50 v347)) acc (ix2 n c)
      = acc (ix2 n c) + ∑ d : Fin 48, ((att s h n d : ℝ) : EReal) * W (ix2 c ⟨h * 48 + d, by omega⟩) :=
  proj_at o ho W _ acc s h eo (head_at o ok ov on hq hk hv hn v16 v46 v50 v347 s h16 h46 h50 h347 h eo ek ev en) n c

/-- All heads together: one sum over the 384 columns. -/
theorem allHeads_at (v16 : FVec Ideal S1024x1152 .bf16) (v46 : FVec Ideal S1024x8 .bf16) (v50 : FVec Ideal S1024x1 .bf16)
    (v347 : FVec Ideal S1024x64 .bf16) (W : FVec Ideal S384x384 .f32) (s : Block) (h16 : ∀ n c, v16 (ix2 n c) = (s n c : EReal))
    (h46 : ∀ n w, v46 (ix2 n w) = if win n = w then 1 else 0) (h50 : ∀ n c, v50 (ix2 n c) = 1)
    (h347 : ∀ j (r : Fin 64), v347 (ix2 j r)
      = (by classical exact if Sel s ⟨r / 8, by omega⟩ ⟨r % 8, by omega⟩ (win j) then (0 : EReal) else ⊥))
    (n : Fin 1024) (c : Fin 384) :
    allHeads v16 v46 v50 v347 W (ix2 n c) = ∑ e : Fin 384, ((attCol s n e : ℝ) : EReal) * W (ix2 c e) := by
  have hz : broadcast S1024x384 (Scalar.ofBits (F := Ideal) .f32 0x00000000#32) (ix2 n c) = 0 := by
    pointwise []
  unfold allHeads
  rw [turn_at 336 720 1104 56 _ _ _ _ _ v16 v46 v50 v347 W s h16 h46 h50 h347 _ ⟨7, by decide⟩ rfl rfl rfl rfl,
    turn_at 288 672 1056 48 _ _ _ _ _ v16 v46 v50 v347 W s h16 h46 h50 h347 _ ⟨6, by decide⟩ rfl rfl rfl rfl,
    turn_at 240 624 1008 40 _ _ _ _ _ v16 v46 v50 v347 W s h16 h46 h50 h347 _ ⟨5, by decide⟩ rfl rfl rfl rfl,
    turn_at 192 576 960 32 _ _ _ _ _ v16 v46 v50 v347 W s h16 h46 h50 h347 _ ⟨4, by decide⟩ rfl rfl rfl rfl,
    turn_at 144 528 912 24 _ _ _ _ _ v16 v46 v50 v347 W s h16 h46 h50 h347 _ ⟨3, by decide⟩ rfl rfl rfl rfl,
    turn_at 96 480 864 16 _ _ _ _ _ v16 v46 v50 v347 W s h16 h46 h50 h347 _ ⟨2, by decide⟩ rfl rfl rfl rfl,
    turn_at 48 432 816 8 _ _ _ _ _ v16 v46 v50 v347 W s h16 h46 h50 h347 _ ⟨1, by decide⟩ rfl rfl rfl rfl,
    turn_at 0 384 768 0 _ _ _ _ _ v16 v46 v50 v347 W s h16 h46 h50 h347 _ ⟨0, by decide⟩ rfl rfl rfl rfl,
    hz, zero_add, Fin.sum_univ_tiles 8 48 rfl, Fin.sum_univ_eight]
  have tile : ∀ h : Fin 8, (∑ d : Fin 48, ((att s h n d : ℝ) : EReal) * W (ix2 c ⟨h * 48 + d, by omega⟩))
      = ∑ d : Fin 48, ((attCol s n ⟨h * 48 + d, by omega⟩ : ℝ) : EReal) * W (ix2 c ⟨h * 48 + d, by omega⟩) := fun h =>
    Finset.sum_congr rfl fun d _ => by
      unfold attCol
      rw [show (⟨(⟨(h : ℕ) * 48 + d, by omega⟩ : Fin 384) / 48, by omega⟩ : Fin 8) = h from Fin.ext (by dsimp only; omega),
        show (⟨(⟨(h : ℕ) * 48 + d, by omega⟩ : Fin 384) % 48, by omega⟩ : Fin 48) = d from Fin.ext (by dsimp only; omega)]
  simp only [tile]
  rfl

/-- The spikes of the block, from its rows and the projection. -/
def spikes (x0 : Vec Ideal S1024x384 .f32) (x1 : Vec Ideal S1152x384 .f32) (x2 : Vec Ideal S1x1152 .f32) : Block :=
  fun n c => fire (∑ e : Fin 384, x0 (ix2 n e) * x1 (ix2 c e) + x2 (ix2 0 c))

/-- The kernel's first firing. -/
theorem spikes_at (x0 : Vec Ideal S1024x384 .f32) (x1 : Vec Ideal S1152x384 .f32) (x2 : Vec Ideal S1x1152 .f32)
    (n : Fin 1024) (c : Fin 1152) : k0_pay2 (F := Ideal) x0 x1 x2 (ix2 n c) = ((spikes x0 x1 x2 n c : ℝ) : EReal) := by
  pointwise [k0_pay2]
  rw [sitofp_decide, ← coe_bit]
  rfl

/-- The kernel's value before the last firing: the attention's projection. -/
theorem before_at (x0 : Vec Ideal S1024x384 .f32) (x1 : Vec Ideal S1152x384 .f32) (x2 : Vec Ideal S1x1152 .f32)
    (x3 : Vec Ideal S384x384 .f32) (x4 : Vec Ideal S1x384 .f32) (n : Fin 1024) (c : Fin 384) :
    before x0 x1 x2 x3 x4 (ix2 n c)
      = ∑ e : Fin 384, ((attCol (spikes x0 x1 x2) n e : ℝ) : EReal) * x3 (ix2 c e) + x4 (ix2 0 c) := by
  classical
  have h16 := spikes_at x0 x1 x2
  have hS := stack_at _ _ (spikes x0 x1 x2) (KRoute.sums_at _ _ h16) (counts_at _ _ h16)
  have ha := allHeads_at (k0_pay2 (F := Ideal) x0 x1 x2) (k0_pay4 (F := Ideal) k0_pay3) (k0_pay6 (F := Ideal)) _ x3 (spikes x0 x1 x2)
    h16 mark_at ones_at (fun j r => by
      refine (mask_at (stack (k0_pay10 (F := Ideal) (k0_pay2 (F := Ideal) x0 x1 x2) k0_pay3)
        (k0_pay12 (F := Ideal) k0_pay8 k0_pay9 (k0_pay11 (F := Ideal) (k0_pay2 (F := Ideal) x0 x1 x2) k0_pay3))) j r).trans
        (if_congr (Eq.to_iff ?_) rfl rfl)
      unfold Sel
      exact congrArg (fun f => Taken f (win j)) (funext fun u => hS r u)) n c
  unfold before
  generalize allHeads _ _ _ _ _ = A at ha ⊢
  pointwise []
  rw [ha]

/-- The kernel's last firing. -/
theorem fired_at (y : FVec Ideal S1024x384 .f32) (n : Fin 1024) (c : Fin 384) :
    k0_pay1 (F := Ideal) y (k0_pay40 (F := Ideal)) (ix2 n c) = ((fire (y (ix2 n c)) : ℝ) : EReal) := by
  pointwise [k0_pay1, k0_pay40]
  rw [sitofp_decide, ← coe_bit]
  rfl

end Cert.KHead

end
-- ==== Proof.KRun.lean ====
/- The kernel's result array: every block computed by the body, then the final reshape. -/
module

public import proofs.«01_k».proof.Proof.KHead
public import Idealize.ShloMosaic.Lib.Pipeline.ValueKit
public import Idealize.ShloMosaic.Lib.Claim

@[expose] public section

set_option maxRecDepth 16384

noncomputable section

namespace Cert.KRun

open Cert.KernelIdeal Cert.KernelIdeal.Gen Idealize.ShloMosaic Idealize.ShloMosaic.TcCoe Idealize.SL.Sem
open Cert.Spec Cert.KHead

variable (m : (ℓ : Loc nD τ sig) → Buf (Elt Ideal) ℓ)

/-- The printed chain of heads, from head 0 to the bias, is the eight heads in turn. -/
theorem heads_eq (v16 : FVec Ideal S1024x1152 .bf16) (v46 : FVec Ideal S1024x8 .bf16) (v49 : FVec Ideal S1024x8 .f32)
    (v50 : FVec Ideal S1024x1 .bf16) (v56 : FVec Ideal S64x64 .f32) (v340 : FVec Ideal S64x8 .f32)
    (W : FVec Ideal S384x384 .f32) (b : FVec Ideal S1x384 .f32) :
    k0_pay39 (F := Ideal) v16 v46 v50 (k0_pay30 v49 v56 v340) W
      (k0_pay36 v16 v46 v50 (k0_pay30 v49 v56 v340) W
        (k0_pay34 v16 v46 v50 (k0_pay30 v49 v56 v340) W (k0_pay31 v16 v46 v49 v50 v56 v340 W)
          (k0_pay32 v16 v46 v49 v50 v56 v340) (k0_pay33 v16 v46 v49 v50 v56 v340))
        (k0_pay35 v16 v46 v50 (k0_pay30 v49 v56 v340)))
      (k0_pay37 v16) (k0_pay38 v16) b
      = addf (allHeads v16 v46 v50 (k0_pay30 v49 v56 v340) W)
        (broadcastTo S1024x384 (shapeCast S1x384 b shapeCasts_S1x384_S1x384) broadcasts_S1x384_S1024x384) := by
  generalize hn : k0_pay30 v49 v56 v340 = v347
  unfold k0_pay39 k0_pay36 k0_pay34 k0_pay31 k0_pay33 k0_pay32 k0_pay35 k0_pay37 k0_pay38
  rw [hn]
  rfl

/-- The printed stack of scores. -/
theorem stack_eq (v91 : FVec Ideal S8x1152 .f32) (v61 : FVec Ideal S8x8 .f32) (v90 : FVec Ideal S384x8 .f32) (v92 : FVec Ideal S8x384 .f32) :
    k0_pay22 (F := Ideal) v91 (k0_pay12 v61 v90 v92) (k0_pay13 v61 v90 v91 v92) (k0_pay14 v61 v90 v91 v92)
      (k0_pay17 (k0_pay15 v61 v90 v92) (k0_pay16 v91) (Scalar.ofBits .f32 0x3F800000#32))
      (k0_pay18 v91 (k0_pay12 v61 v90 v92)) (k0_pay19 v91 (k0_pay12 v61 v90 v92)) (k0_pay20 v91) (k0_pay21 (k0_pay12 v61 v90 v92))
      (Named.named κ "scale" 0x3E13CD3A#32)
      = KRoute.stack v91 (k0_pay12 v61 v90 v92) := rfl

/-- The printed count of the windows taken before. -/
theorem chosen_eq (S : FVec Ideal S64x8 .f32) :
    k0_pay29 (F := Ideal) (iota .tc S64x8 32 [1] iota_S64x8_d1_w32) S
      (k0_pay26 (iota .tc S64x8 32 [1] iota_S64x8_d1_w32) S (k0_pay23 (F := Ideal))
        (extractStridedSlice S64x1 ![0, 0] S slices_S64x8_o0_0_S64x1)
        (sitofp .f32 (extui 32 (cmpf .ogt (broadcastTo S64x8 (extractStridedSlice S64x1 ![0, 0] S slices_S64x8_o0_0_S64x1)
          broadcasts_S64x1_S64x8) S) natLt_1_32)))
      (k0_pay27 S) (k0_pay28 S)
      = KRoute.chosen S := rfl

/-- What the body leaves in the output block: the last firing of its value. -/
theorem out_eq (x0 : Vec Ideal S1024x384 .f32) (x1 : Vec Ideal S1152x384 .f32) (x2 : Vec Ideal S1x1152 .f32)
    (x3 : Vec Ideal S384x384 .f32) (x4 : Vec Ideal S1x384 .f32) (y : S1024x384.Idx) :
    out0_5 x0 x1 x2 x3 x4 y = k0_pay1 (F := Ideal) (before x0 x1 x2 x3 x4) (k0_pay40 (F := Ideal)) y := by
  have hc := chosen_eq (k0_pay60 x0 x1 x2 x3 x4)
  have hs := stack_eq (k0_pay50 x0 x1 x2 x3 x4) (k0_pay48 x0 x1 x2 x3 x4) (k0_pay49 x0 x1 x2 x3 x4) (k0_pay51 x0 x1 x2 x3 x4)
  have h61 : k0_pay61 x0 x1 x2 x3 x4 = KRoute.chosen (KRoute.stack (k0_pay50 x0 x1 x2 x3 x4)
      (k0_pay12 (k0_pay48 x0 x1 x2 x3 x4) (k0_pay49 x0 x1 x2 x3 x4) (k0_pay51 x0 x1 x2 x3 x4))) := by
    rw [← hs]; exact hc
  have hh := heads_eq (k0_pay41 x0 x1 x2 x3 x4) (k0_pay44 x0 x1 x2 x3 x4) (k0_pay45 x0 x1 x2 x3 x4) (k0_pay46 x0 x1 x2 x3 x4)
    (k0_pay47 x0 x1 x2 x3 x4) (k0_pay61 x0 x1 x2 x3 x4) x3 x4
  unfold out0_5 k0_pay62
  simp (disch := decide) only [View.canon_cons_unit_lit', View.ld_unit_lit']
  rw [hh, h61]
  unfold k0_pay50 k0_pay51 k0_pay41 k0_pay42 k0_pay44 k0_pay45 k0_pay46 k0_pay47 k0_pay48 k0_pay49 k0_pay42 before
  simp (disch := decide) only [View.ld_unit_lit']

/-- The windows' blocks at each point: the rows move with the point, everything else stays. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ t.val < 32 :=
  (by decide +kernel : ∀ t : Fin grid0.N, _)

/-- Gathering the two leading axes into one. -/
theorem lead_at (x : FVec Ideal S4x8x1024x384 .f32) (g : Fin 32) (n : Fin 1024) (e : Fin 384) :
    shapeCast S32x1024x384 x shapeCasts_S4x8x1024x384_S32x1024x384 (ix3 g n e) = x (ix4 ⟨g / 8, by omega⟩ ⟨g % 8, by omega⟩ n e) := by
  pointwise

/-- Gathering the leading axis and the rows into one. -/
theorem flat_at (x : FVec Ideal S32x1024x384 .f32) (n : Fin 32768) (e : Fin 384) :
    shapeCast S32768x384 x shapeCasts_S32x1024x384_S32768x384 (ix2 n e) = x (ix3 ⟨n / 1024, by omega⟩ ⟨n % 1024, by omega⟩ e) := by
  pointwise

/-- The rows the region stages, laid out one leading pair after the other. -/
theorem rows_val (c : Dev nD) (n : Fin 32768) (e : Fin 384) : (V m c main_v1 : FVec Ideal S32768x384 .f32) (ix2 n e)
    = (m ((c : Thread nD τ).loc main_arg0) : FVec Ideal S4x8x1024x384 .f32)
        (ix4 ⟨n / 8192, by omega⟩ ⟨n / 1024 % 8, by omega⟩ ⟨n % 1024, by omega⟩ e) := by
  have hv : V m c main_v1 = shapeCast S32768x384 (shapeCast S32x1024x384 (m ((c : Thread nD τ).loc main_arg0) : FVec Ideal S4x8x1024x384 .f32)
      shapeCasts_S4x8x1024x384_S32x1024x384) shapeCasts_S32x1024x384_S32768x384 := by
    rfl
  rw [hv, flat_at, lead_at]
  exact congrArg (fun g => (m ((c : Thread nD τ).loc main_arg0) : FVec Ideal S4x8x1024x384 .f32) (ix4 g ⟨n / 1024 % 8, by omega⟩ ⟨n % 1024, by omega⟩ e))
    (Fin.ext (by dsimp only; omega))

/-- The first bias the region stages, as a row. -/
theorem bias_val (c : Dev nD) (o : Fin 1152) : (V m c main_v2 : FVec Ideal S1x1152 .f32) (ix2 0 o)
    = (m ((c : Thread nD τ).loc main_arg2) : FVec Ideal S1152 .f32) (ix1 o) := by
  have hv : V m c main_v2 = shapeCast S1x1152 (m ((c : Thread nD τ).loc main_arg2) : FVec Ideal S1152 .f32) shapeCasts_S1152_S1x1152 := by
    rfl
  rw [hv]
  pointwise

/-- The last bias the region stages, as a row. -/
theorem bias2_val (c : Dev nD) (o : Fin 384) : (V m c main_v3 : FVec Ideal S1x384 .f32) (ix2 0 o)
    = (m ((c : Thread nD τ).loc main_arg4) : FVec Ideal S384 .f32) (ix1 o) := by
  have hv : V m c main_v3 = shapeCast S1x384 (m ((c : Thread nD τ).loc main_arg4) : FVec Ideal S384 .f32) shapeCasts_S384_S1x384 := by
    rfl
  rw [hv]
  pointwise

/-- The spikes of one leading pair's rows, off the argument arrays. -/
def argBlock (x : FVec Ideal S4x8x1024x384 .f32) (W : FVec Ideal S1152x384 .f32) (b : FVec Ideal S1152 .f32) (T : Fin 4) (B : Fin 8) : Block :=
  fun n o => fire (∑ e, x (ix4 T B n e) * W (ix2 o e) + b (ix1 o))

/-- The result, off the argument arrays. -/
def argOut (x : FVec Ideal S4x8x1024x384 .f32) (W : FVec Ideal S1152x384 .f32) (b : FVec Ideal S1152 .f32)
    (Wp : FVec Ideal S384x384 .f32) (bp : FVec Ideal S384 .f32) (T : Fin 4) (B : Fin 8) (n : Fin 1024) (o : Fin 384) : EReal :=
  ↑(fire (∑ e : Fin 384, ↑(attCol (argBlock x W b T B) n e) * Wp (ix2 o e) + bp (ix1 o)))

/-- The result array of the region: row `n` belongs to the leading pair `n / 1024`. -/
def rowsOut (c : Dev nD) : FVec Ideal S32768x384 .f32 := fun i =>
  argOut (m ((c : Thread nD τ).loc main_arg0)) (m ((c : Thread nD τ).loc main_arg1)) (m ((c : Thread nD τ).loc main_arg2))
    (m ((c : Thread nD τ).loc main_arg3)) (m ((c : Thread nD τ).loc main_arg4))
    ⟨i 0 / 8192, by have := (i 0).isLt; simp at this; omega⟩ ⟨i 0 / 1024 % 8, by omega⟩ ⟨i 0 % 1024, by omega⟩ (i 1)

/-- The region leaves that array. -/
theorem final (c : Dev nD) : (dats m 0 c).arrAt 5 cfg0.N = rowsOut m c := by
  refine (dats m 0 c).arrAt_eq_of_covers 5 (rowsOut m c) (by decide +kernel) fun t _ y => ?_
  blk_simp
  rw [after0_5, out_eq]
  have hy : ∃ n o, y = ix2 n o := ⟨y 0, y 1, by idx_vars y⟩
  obtain ⟨n, o, rfl⟩ := hy
  rw [fired_at, before_at]
  have hx : ∀ k e, (iblk m c 0 t : FVec Ideal S1024x384 .f32) (ix2 k e)
      = (m ((c : Thread nD τ).loc main_arg0) : FVec Ideal S4x8x1024x384 .f32)
        (ix4 ⟨t / 8, by have := (idx t).2.2.2.2.2.2; omega⟩ ⟨t % 8, by omega⟩ k e) := by
    intro k e
    have hk : (win0_0.blk t).view.emb (ix2 k e) = ix2 ⟨t * 1024 + k, by have := (idx t).2.2.2.2.2.2; omega⟩ e := by
      blk_ext [idx t]
    blk_simp [iblk]
    rw [hk, rows_val]
    exact congrArg _ (by blk_ext)
  have hy : (win0_5.blk t).view.emb (ix2 n o) = ix2 ⟨t * 1024 + n, by have := (idx t).2.2.2.2.2.2; omega⟩ o := by
    blk_ext [idx t]
  have h1 : (iblk m c 1 t : FVec Ideal S1152x384 .f32) = m ((c : Thread nD τ).loc main_arg1) := by blk_ext! [iblk, V, idx t]
  have h3 : (iblk m c 3 t : FVec Ideal S384x384 .f32) = m ((c : Thread nD τ).loc main_arg3) := by blk_ext! [iblk, V, idx t]
  have h2 : (iblk m c 2 t : FVec Ideal S1x1152 .f32) = V m c main_v2 := by blk_ext! [iblk, idx t]
  have h4 : (iblk m c 4 t : FVec Ideal S1x384 .f32) = V m c main_v3 := by blk_ext! [iblk, idx t]
  rw [hy, h1, h2, h3, h4, bias2_val]
  have hb : spikes (iblk m c 0 t) (m ((c : Thread nD τ).loc main_arg1)) (V m c main_v2)
      = argBlock (m ((c : Thread nD τ).loc main_arg0)) (m ((c : Thread nD τ).loc main_arg1)) (m ((c : Thread nD τ).loc main_arg2))
        ⟨t / 8, by have := (idx t).2.2.2.2.2.2; omega⟩ ⟨t % 8, by omega⟩ := by
    funext k o
    unfold spikes argBlock
    simp only [hx]
    rw [show (V m c main_v2 : FVec Ideal S1x1152 .f32) (ix2 0 o) = _ from bias_val m c o]
  rw [hb]
  unfold rowsOut
  rw [show (⟨(ix2 (⟨t * 1024 + n, by have := (idx t).2.2.2.2.2.2; omega⟩ : Fin 32768) o 0).val / 8192, by
      have := (idx t).2.2.2.2.2.2; simp only [ix2]; omega⟩ : Fin 4) = ⟨t / 8, by have := (idx t).2.2.2.2.2.2; omega⟩ from
      Fin.ext (by simp only [ix2]; omega),
    show (⟨(ix2 (⟨t * 1024 + n, by have := (idx t).2.2.2.2.2.2; omega⟩ : Fin 32768) o 0).val / 1024 % 8, by omega⟩ : Fin 8)
      = ⟨t % 8, by omega⟩ from Fin.ext (by simp only [ix2]; omega),
    show (⟨(ix2 (⟨t * 1024 + n, by have := (idx t).2.2.2.2.2.2; omega⟩ : Fin 32768) o 0).val % 1024, by omega⟩ : Fin 1024)
      = n from Fin.ext (by simp only [ix2]; omega)]
  rfl

/-- Splitting the rows again into the leading pairs. -/
theorem split_at (x : FVec Ideal S32768x384 .f32) (T : Fin 4) (B : Fin 8) (n : Fin 1024) (o : Fin 384) :
    shapeCast S4x8x1024x384 x shapeCasts_S32768x384_S4x8x1024x384 (ix4 T B n o) = x (ix2 ⟨(T * 8 + B) * 1024 + n, by omega⟩ o) := by
  pointwise
  exact congrArg (fun r => x (ix2 r o)) (Fin.ext (by dsimp only; omega))

/-- What the region leaves, split into the leading pairs, at one index. -/
theorem result_at (c : Dev nD) (T : Fin 4) (B : Fin 8) (n : Fin 1024) (o : Fin 384) :
    shapeCast S4x8x1024x384 (rowsOut m c) shapeCasts_S32768x384_S4x8x1024x384 (ix4 T B n o)
      = argOut (m ((c : Thread nD τ).loc main_arg0)) (m ((c : Thread nD τ).loc main_arg1)) (m ((c : Thread nD τ).loc main_arg2))
        (m ((c : Thread nD τ).loc main_arg3)) (m ((c : Thread nD τ).loc main_arg4)) T B n o := by
  rw [split_at]
  unfold rowsOut
  congr 1 <;> refine Fin.ext ?_ <;> simp only [ix2] <;> omega

end Cert.KRun

end
-- ==== Proof.RefTerm.lean ====
/- The reference's result as a chain of named stages, each a short term over the stages before it. -/
module

public import proofs.«01_k».proof.Proof.Gen.ReferenceIdeal.Run
public import Idealize.ShloMosaic.PureOps.Ideal

@[expose] public section

noncomputable section

namespace Cert.RefTerm

open Cert.ReferenceIdeal Cert.ReferenceIdeal.Gen Idealize.ShloMosaic Idealize.ShloMosaic.TcCoe Idealize.SL.Sem

/-- The scale of the scores, 1 over the square root of the head's width. -/
def scl : FVec Ideal S_ .f32 := Host.divf (constant S_ .f32 0x3F800000#32) (Host.sqrt (constant S_ .f32 0x42400000#32))

/-- The projected queries, keys and values before firing. -/
def qkv (x : FVec Ideal S4x8x1024x384 .f32) (W : FVec Ideal S1152x384 .f32) (b : FVec Ideal S1152 .f32) :
    FVec Ideal S4x8x1024x1152 .f32 :=
  addf (Host.dotGeneral dot_S4x8x1024x384_S384x1152_S4x8x1024x1152_3_0_012_1_n_n none x
      (transpose S384x1152 [1, 0] W transposes_S1152x384_S384x1152_1_0))
    (broadcastInDim S4x8x1024x1152 ![0, 1, 2, 3] bcast_S1x1x1x1152_S4x8x1024x1152_0_1_2_3
      (broadcastInDim S1x1x1x1152 ![3] bcast_S1152_S1x1x1x1152_3 b))

/-- The same values, split into queries, keys and values and into heads. -/
def heads (y : FVec Ideal S4x8x1024x1152 .f32) : FVec Ideal S3x4x8x8x1024x48 .f32 :=
  transpose S3x4x8x8x1024x48 [3, 0, 1, 4, 2, 5] (shapeCast S4x8x1024x3x8x48 y shapeCasts_S4x8x1024x1152_S4x8x1024x3x8x48)
    transposes_S4x8x1024x3x8x48_S3x4x8x8x1024x48_3_0_1_4_2_5

/-- The firing rule on one of the three parts. -/
def fired (z : FVec Ideal S4x8x8x1024x48 .f32) : FVec Ideal S4x8x8x8x128x48 .f32 :=
  shapeCast S4x8x8x8x128x48 (uitofp .f32 (cmpf .oge
    (subf (Host.divf z (broadcastInDim S4x8x8x1024x48 ![] bcast_S_S4x8x8x1024x48 (constant S_ .f32 0x40000000#32)))
      (broadcastInDim S4x8x8x1024x48 ![] bcast_S_S4x8x8x1024x48 (constant S_ .f32 0x3F800000#32)))
    (broadcastInDim S4x8x8x1024x48 ![] bcast_S_S4x8x8x1024x48 (constant S_ .f32 0x00000000#32))))
    shapeCasts_S4x8x8x1024x48_S4x8x8x8x128x48

/-- The query spikes, by window. -/
def qs (y : FVec Ideal S3x4x8x8x1024x48 .f32) : FVec Ideal S4x8x8x8x128x48 .f32 :=
  fired (shapeCast S4x8x8x1024x48 (extractStridedSlice S1x4x8x8x1024x48 ![0, 0, 0, 0, 0, 0] y
    slices_S3x4x8x8x1024x48_S1x4x8x8x1024x48_0_0_0_0_0_0) shapeCasts_S1x4x8x8x1024x48_S4x8x8x1024x48)

/-- The key spikes, by window. -/
def ks (y : FVec Ideal S3x4x8x8x1024x48 .f32) : FVec Ideal S4x8x8x8x128x48 .f32 :=
  fired (shapeCast S4x8x8x1024x48 (extractStridedSlice S1x4x8x8x1024x48 ![1, 0, 0, 0, 0, 0] y
    slices_S3x4x8x8x1024x48_S1x4x8x8x1024x48_1_0_0_0_0_0) shapeCasts_S1x4x8x8x1024x48_S4x8x8x1024x48)

/-- The value spikes, by window. -/
def vs (y : FVec Ideal S3x4x8x8x1024x48 .f32) : FVec Ideal S4x8x8x8x128x48 .f32 :=
  fired (shapeCast S4x8x8x1024x48 (extractStridedSlice S1x4x8x8x1024x48 ![2, 0, 0, 0, 0, 0] y
    slices_S3x4x8x8x1024x48_S1x4x8x8x1024x48_2_0_0_0_0_0) shapeCasts_S1x4x8x8x1024x48_S4x8x8x1024x48)

/-- The spikes of each window added up. -/
def region (s : FVec Ideal S4x8x8x8x128x48 .f32) : FVec Ideal S4x8x8x8x48 .f32 :=
  Host.reduceAdd s (constant S_ .f32 0x00000000#32) reducesTo_S4x8x8x8x128x48_S4x8x8x8x48_d4 h_S_

/-- The scaled similarity of the windows. -/
def simil (q k : FVec Ideal S4x8x8x8x128x48 .f32) : FVec Ideal S4x8x8x8x8 .f32 :=
  mulf (Host.dotGeneral dot_S4x8x8x8x48_S4x8x8x48x8_S4x8x8x8x8_4_3_3_4_012_012 none (region q)
      (transpose S4x8x8x48x8 [0, 1, 2, 4, 3] (region k) transposes_S4x8x8x8x48_S4x8x8x48x8_0_1_2_4_3))
    (broadcastInDim S4x8x8x8x8 ![] bcast_S_S4x8x8x8x8 scl)

/-- The total of each window's key spikes. -/
def total (k : FVec Ideal S4x8x8x8x128x48 .f32) : FVec Ideal S4x8x8x8 .f32 :=
  Host.reduceAdd (Host.absf k) (constant S_ .f32 0x00000000#32) reducesTo_S4x8x8x8x128x48_S4x8x8x8_d4_5 h_S_

/-- What is added to the similarity: nothing for an active window, a large negative number for an inactive one. -/
def penalty (k : FVec Ideal S4x8x8x8x128x48 .f32) : FVec Ideal S4x8x8x1x8 .f32 :=
  mulf (subf (broadcastInDim S4x8x8x1x8 ![] bcast_S_S4x8x8x1x8 (constant S_ .f32 0x3F800000#32))
      (broadcastInDim S4x8x8x1x8 ![0, 1, 2, 4] bcast_S4x8x8x8_S4x8x8x1x8_0_1_2_4
        (uitofp .f32 (cmpf .ogt (total k) (broadcastInDim S4x8x8x8 ![] bcast_S_S4x8x8x8 (constant S_ .f32 0x3727C5AC#32))))))
    (broadcastInDim S4x8x8x1x8 ![] bcast_S_S4x8x8x1x8 (constant S_ .f32 0xCE6E6B28#32))

/-- The routing scores. -/
def scores (q k : FVec Ideal S4x8x8x8x128x48 .f32) : FVec Ideal S4x8x8x8x8 .f32 :=
  addf (simil q k) (broadcastInDim S4x8x8x8x8 ![0, 1, 2, 3, 4] bcast_S4x8x8x1x8_S4x8x8x8x8_0_1_2_3_4 (penalty k))

/-- The positions of the four greatest scores. -/
def picks (r : FVec Ideal S4x8x8x8x8 .f32) : IVec S4x8x8x8x4 32 :=
  (Host.topK S4x8x8x8x4 4 (FloatOps.cmpfTotal (F := Ideal) (φ := .f32) .gt) r sliceFits_S4x8x8x8x8_S4x8x8x8x4).2

/-- The rows of the windows picked. -/
def rows (p : IVec S4x8x8x8x4 32) : IVec S256x8x512 32 :=
  shapeCast S256x8x512 (shapeCast S4x8x8x8x512
    (addi (broadcastInDim S4x8x8x8x4x128 ![0, 1, 2, 3, 4, 5] bcast_S4x8x8x8x4x1_S4x8x8x8x4x128_0_1_2_3_4_5
        (muli (broadcastInDim S4x8x8x8x4x1 ![0, 1, 2, 3, 4] bcast_S4x8x8x8x4_S4x8x8x8x4x1_0_1_2_3_4 p)
          (broadcastInDim S4x8x8x8x4x1 ![] bcast_S_S4x8x8x8x4x1 (constantI S_ 32 128#32))))
      (broadcastInDim S4x8x8x8x4x128 ![0, 1, 2, 3, 4, 5] bcast_S1x1x1x1x1x128_S4x8x8x8x4x128_0_1_2_3_4_5
        (broadcastInDim S1x1x1x1x1x128 ![5] bcast_S128_S1x1x1x1x1x128_5 (iotaInDim S128 32 0))))
    shapeCasts_S4x8x8x8x4x128_S4x8x8x8x512) shapeCasts_S4x8x8x8x512_S256x8x512

/-- The number of the batch entry a row is gathered from. -/
def entryNo : IVec S256x1x1 32 :=
  select (cmpi .slt (broadcastInDim S256x1x1 ![0] bcast_S256_S256x1x1_0 (iotaInDim S256 32 0))
      (broadcastInDim S256x1x1 ![] bcast_S_S256x1x1 (constantI S_ 32 0#32)))
    (addi (broadcastInDim S256x1x1 ![0] bcast_S256_S256x1x1_0 (iotaInDim S256 32 0))
      (broadcastInDim S256x1x1 ![] bcast_S_S256x1x1 (constantI S_ 32 256#32)))
    (broadcastInDim S256x1x1 ![0] bcast_S256_S256x1x1_0 (iotaInDim S256 32 0))

/-- The row number with a negative number counted from the end. -/
def rowNo (g : IVec S256x8x512 32) : IVec S256x8x512 32 :=
  select (cmpi .slt g (broadcastInDim S256x8x512 ![] bcast_S_S256x8x512 (constantI S_ 32 0#32)))
    (addi g (broadcastInDim S256x8x512 ![] bcast_S_S256x8x512 (constantI S_ 32 1024#32))) g

/-- The pairs of batch entry and row that the gather reads at. -/
def pairs (g : IVec S256x8x512 32) : IVec S256x8x512x2 32 :=
  concatenate S256x8x512x2 3
    [⟨S256x8x512x1, broadcastInDim S256x8x512x1 ![0, 1, 2] bcast_S256x8x512_S256x8x512x1_0_1_2
        (broadcastInDim S256x8x512 ![0, 1, 2] bcast_S256x1x1_S256x8x512_0_1_2 entryNo)⟩,
     ⟨S256x8x512x1, broadcastInDim S256x8x512x1 ![0, 1, 2] bcast_S256x8x512_S256x8x512x1_0_1_2 (rowNo g)⟩]
    concatenates_S256x8x512x1_S256x8x512x1_S256x8x512x2_d3

/-- The gathered rows of the key or value spikes. -/
def gathered (s : FVec Ideal S4x8x8x8x128x48 .f32) (g : IVec S256x8x512 32) : FVec Ideal S256x8x512x48 .f32 :=
  Host.gather gather_S256x1024x48_S256x8x512x2_S256x8x512x48_3_01_n_n_01_3_1148
    (shapeCast S256x1024x48 s shapeCasts_S4x8x8x8x128x48_S256x1024x48) (pairs g)

/-- The attention scores. -/
def logits (q : FVec Ideal S4x8x8x8x128x48 .f32) (kg : FVec Ideal S256x8x512x48 .f32) : FVec Ideal S256x8x128x512 .f32 :=
  mulf (Host.dotGeneral dot_S256x8x128x48_S256x8x48x512_S256x8x128x512_3_2_2_3_01_01 none
      (shapeCast S256x8x128x48 q shapeCasts_S4x8x8x8x128x48_S256x8x128x48)
      (transpose S256x8x48x512 [0, 1, 3, 2] kg transposes_S256x8x512x48_S256x8x48x512_0_1_3_2))
    (broadcastInDim S256x8x128x512 ![] bcast_S_S256x8x128x512 scl)

/-- The greatest score of each row. -/
def top (l : FVec Ideal S256x8x128x512 .f32) : FVec Ideal S256x8x128 .f32 :=
  maximumf (broadcastInDim S256x8x128 ![] bcast_S_S256x8x128 (constant S_ .f32 0xFF800000#32))
    (Host.reduce FloatOps.maximumf l (constant S_ .f32 0xFF800000#32) reducesTo_S256x8x128x512_S256x8x128_d3 h_S_)

/-- The exponentials of the scores less the greatest. -/
def expo (l : FVec Ideal S256x8x128x512 .f32) : FVec Ideal S256x8x128x512 .f32 :=
  Host.exp (subf l (broadcastInDim S256x8x128x512 ![0, 1, 2, 3] bcast_S256x8x128x1_S256x8x128x512_0_1_2_3
    (broadcastInDim S256x8x128x1 ![0, 1, 2] bcast_S256x8x128_S256x8x128x1_0_1_2 (top l))))

/-- The softmax. -/
def soft (l : FVec Ideal S256x8x128x512 .f32) : FVec Ideal S256x8x128x512 .f32 :=
  Host.divf (expo l) (broadcastInDim S256x8x128x512 ![0, 1, 2, 3] bcast_S256x8x128x1_S256x8x128x512_0_1_2_3
    (broadcastInDim S256x8x128x1 ![0, 1, 2] bcast_S256x8x128_S256x8x128x1_0_1_2
      (Host.reduceAdd (expo l) (constant S_ .f32 0x00000000#32) reducesTo_S256x8x128x512_S256x8x128_d3 h_S_)))

/-- The attention's result, back in the order of the rows and columns. -/
def attended (l : FVec Ideal S256x8x128x512 .f32) (vg : FVec Ideal S256x8x512x48 .f32) : FVec Ideal S4x8x1024x384 .f32 :=
  shapeCast S4x8x1024x384 (transpose S4x8x1024x8x48 [0, 1, 3, 2, 4]
    (shapeCast S4x8x8x1024x48 (Host.dotGeneral dot_S256x8x128x512_S256x8x512x48_S256x8x128x48_3_2_2_3_01_01 none (soft l) vg)
      shapeCasts_S256x8x128x48_S4x8x8x1024x48) transposes_S4x8x8x1024x48_S4x8x1024x8x48_0_1_3_2_4)
    shapeCasts_S4x8x1024x8x48_S4x8x1024x384

/-- The output projection and the last firing. -/
def last (a : FVec Ideal S4x8x1024x384 .f32) (W : FVec Ideal S384x384 .f32) (b : FVec Ideal S384 .f32) :
    FVec Ideal S4x8x1024x384 .f32 :=
  uitofp .f32 (cmpf .oge
    (subf (Host.divf
      (addf (Host.dotGeneral dot_S4x8x1024x384_S384x384_S4x8x1024x384_3_0_012_1_n_n none a
          (transpose S384x384 [1, 0] W transposes_S384x384_S384x384_1_0))
        (broadcastInDim S4x8x1024x384 ![0, 1, 2, 3] bcast_S1x1x1x384_S4x8x1024x384_0_1_2_3
          (broadcastInDim S1x1x1x384 ![3] bcast_S384_S1x1x1x384_3 b)))
      (broadcastInDim S4x8x1024x384 ![] bcast_S_S4x8x1024x384 (constant S_ .f32 0x40000000#32)))
      (broadcastInDim S4x8x1024x384 ![] bcast_S_S4x8x1024x384 (constant S_ .f32 0x3F800000#32)))
    (broadcastInDim S4x8x1024x384 ![] bcast_S_S4x8x1024x384 (constant S_ .f32 0x00000000#32)))

/-- The reference's result from its five arguments. -/
def whole (x : FVec Ideal S4x8x1024x384 .f32) (W : FVec Ideal S1152x384 .f32) (b : FVec Ideal S1152 .f32)
    (Wp : FVec Ideal S384x384 .f32) (bp : FVec Ideal S384 .f32) : FVec Ideal S4x8x1024x384 .f32 :=
  let y := heads (qkv x W b)
  let g := rows (picks (scores (qs y) (ks y)))
  last (attended (logits (qs y) (gathered (ks y) g)) (gathered (vs y) g)) Wp bp

set_option maxRecDepth 16384 in
set_option maxHeartbeats 4000000 in
/-- The reference program's result is the chain of stages. -/
theorem res_eq (m : (ℓ : Loc nD τ sig) → Buf (Elt Ideal) ℓ) (c : Dev nD) :
    Cert.ReferenceIdeal.Value.res_main_v132 (F := Ideal) m c
      = whole (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  unfold Cert.ReferenceIdeal.Value.res_main_v132
  rfl

end Cert.RefTerm

end
-- ==== Proof.RefRoute.lean ====
/- The reference's routing stages at an index: the spikes of each window, the scores, and the windows picked. -/
module

public import proofs.«01_k».proof.Proof.RefTerm
public import proofs.«01_k».proof.Proof.Facts
public import Idealize.ShloMosaic.Lib.Pointwise

@[expose] public section

set_option maxRecDepth 16384

noncomputable section

namespace Cert.RefTerm

open Cert.ReferenceIdeal Cert.ReferenceIdeal.Gen Idealize.ShloMosaic Idealize.ShloMosaic.TcCoe Idealize.SL.Sem
open Cert.Spec

/-- The spikes of one pair of leading indices, from the projected values. -/
def block (y : FVec Ideal S4x8x1024x1152 .f32) (T : Fin 4) (B : Fin 8) : Block := fun n c => fire (y (ix4 T B n c))

/-- They are spikes. -/
theorem block_spikes (y : FVec Ideal S4x8x1024x1152 .f32) (T : Fin 4) (B : Fin 8) : Spikes (block y T B) := fun _ _ => fire_cases _

/-- The query spikes at an index. -/
theorem qs_at (y : FVec Ideal S4x8x1024x1152 .f32) (T : Fin 4) (B h w : Fin 8) (i : Fin 128) (d : Fin 48) :
    qs (heads y) (ix6 T B h w i d) = ((q (block y T B) h (row w i) d : ℝ) : EReal) := by
  pointwise [qs, fired, heads]
  exact Bits.uitofp_bit _

/-- The key spikes at an index. -/
theorem ks_at (y : FVec Ideal S4x8x1024x1152 .f32) (T : Fin 4) (B h w : Fin 8) (i : Fin 128) (d : Fin 48) :
    ks (heads y) (ix6 T B h w i d) = ((k (block y T B) h (row w i) d : ℝ) : EReal) := by
  pointwise [ks, fired, heads]
  refine (Bits.uitofp_bit _).trans ?_
  unfold k block fire row
  simp only [Nat.add_assoc]

/-- The value spikes at an index. -/
theorem vs_at (y : FVec Ideal S4x8x1024x1152 .f32) (T : Fin 4) (B h w : Fin 8) (i : Fin 128) (d : Fin 48) :
    vs (heads y) (ix6 T B h w i d) = ((v (block y T B) h (row w i) d : ℝ) : EReal) := by
  pointwise [vs, fired, heads]
  refine (Bits.uitofp_bit _).trans ?_
  unfold v block fire row
  simp only [Nat.add_assoc]

/-- The scale. -/
theorem scl_at : scl ix0 = (scale : EReal) := by
  have h48 : (0 : ℝ) < Real.sqrt 48 := Real.sqrt_pos.mpr (by norm_num)
  pointwise [scl]
  rw [Bits.fortyEight, Ideal.sqrt_coe, if_neg (by norm_num), Ideal.div_coe h48.ne', one_mul, one_div]
  rfl

section sums

variable (z : FVec Ideal S4x8x8x8x128x48 .f32) (T : Fin 4) (B h w : Fin 8)

/-- A window's sum is over the window's rows. -/
theorem region_at (d : Fin 48) : region z (ix5 T B h w d) = ∑ i : Fin 128, z (ix6 T B h w i d) := by
  unfold region
  have hr := reducesTo_S4x8x8x8x128x48_S4x8x8x8x48_d4
  refine (congrArg (Ideal.ofBits .f32 0x00000000#32 + ·) (Finset.sum_filter_eq_sum_of_fiber _ (fun i : Fin 128 => ix6 T B h w i d)
    (fun _ _ e => congrFun e 4) (fun j => ⟨fun e => ⟨j 4, ?_⟩, ?_⟩) z)).trans ?_
  · have e0 := congrArg Fin.val (congrFun e 0)
    have e1 := congrArg Fin.val (congrFun e 1)
    have e2 := congrArg Fin.val (congrFun e 2)
    have e3 := congrArg Fin.val (congrFun e 3)
    have e4 := congrArg Fin.val (congrFun e 4)
    funext a; apply Fin.ext
    match a with
    | ⟨0, _⟩ => exact e0.symm
    | ⟨1, _⟩ => exact e1.symm
    | ⟨2, _⟩ => exact e2.symm
    | ⟨3, _⟩ => exact e3.symm
    | ⟨4, _⟩ => rfl
    | ⟨5, _⟩ => exact e4.symm
  · rintro ⟨i, rfl⟩
    funext a; apply Fin.ext
    match a with
    | ⟨0, _⟩ => rfl
    | ⟨1, _⟩ => rfl
    | ⟨2, _⟩ => rfl
    | ⟨3, _⟩ => rfl
    | ⟨4, _⟩ => rfl
  · pointwise

/-- A window's total is over its rows and columns. -/
theorem total_at : total z (ix4 T B h w) = ∑ i : Fin 128 × Fin 48, max (z (ix6 T B h w i.1 i.2)) (-z (ix6 T B h w i.1 i.2)) := by
  unfold total
  refine (congrArg (Ideal.ofBits .f32 0x00000000#32 + ·) (Finset.sum_filter_eq_sum_of_fiber _
    (fun i : Fin 128 × Fin 48 => ix6 T B h w i.1 i.2)
    (fun _ _ e => Prod.ext (congrFun e 4) (congrFun e 5)) (fun j => ⟨fun e => ⟨(j 4, j 5), ?_⟩, ?_⟩) (Host.absf z))).trans ?_
  · have e0 := congrArg Fin.val (congrFun e 0)
    have e1 := congrArg Fin.val (congrFun e 1)
    have e2 := congrArg Fin.val (congrFun e 2)
    have e3 := congrArg Fin.val (congrFun e 3)
    funext a; apply Fin.ext
    match a with
    | ⟨0, _⟩ => exact e0.symm
    | ⟨1, _⟩ => exact e1.symm
    | ⟨2, _⟩ => exact e2.symm
    | ⟨3, _⟩ => exact e3.symm
    | ⟨4, _⟩ => rfl
    | ⟨5, _⟩ => rfl
  · rintro ⟨i, rfl⟩
    funext a; apply Fin.ext
    match a with
    | ⟨0, _⟩ => rfl
    | ⟨1, _⟩ => rfl
    | ⟨2, _⟩ => rfl
    | ⟨3, _⟩ => rfl
  · pointwise
    rfl

end sums

section block

variable {s : Block} (hs : Spikes s) {qq kk : FVec Ideal S4x8x8x8x128x48 .f32} (T : Fin 4) (B : Fin 8)
  (hq : ∀ h w i d, qq (ix6 T B h w i d) = ((q s h (row w i) d : ℝ) : EReal))
  (hk : ∀ h w i d, kk (ix6 T B h w i d) = ((k s h (row w i) d : ℝ) : EReal))

include hk in
/-- The total of a window's key spikes is their number. -/
theorem total_val (hs : Spikes s) (h w : Fin 8) : total kk (ix4 T B h w) = ((keys s h w : ℝ) : EReal) := by
  have hm : ∀ i d, max (kk (ix6 T B h w i d)) (-kk (ix6 T B h w i d)) = ((k s h (row w i) d : ℝ) : EReal) := fun i d => by
    have h0 : 0 ≤ k s h (row w i) d := hs.nonneg _ _
    rw [hk, ← EReal.coe_neg, max_eq_left (EReal.coe_le_coe_iff.mpr (by linarith))]
  rw [total_at]
  simp only [hm]
  rw [← coe_sum, Fintype.sum_prod_type, Finset.sum_comm]
  rfl

include hs hq hk in
open Classical in
/-- The scores: those of the specification, an inactive window's being the large negative number. -/
theorem scores_at (h w w' : Fin 8) :
    scores qq kk (ix5 T B h w w') = score s (Ideal.ofBits .f32 0xCE6E6B28#32) h w w' := by
  have hR : ∀ (u : Fin 8) (d : Fin 48), region qq (ix5 T B h u d) = ((winSum (fun n => q s h n d) u : ℝ) : EReal) := fun u d => by
    rw [region_at]; exact (Finset.sum_congr rfl fun i _ => hq h u i d).trans (coe_sum _ _).symm
  have hK : ∀ (u : Fin 8) (d : Fin 48), region kk (ix5 T B h u d) = ((winSum (fun n => k s h n d) u : ℝ) : EReal) := fun u d => by
    rw [region_at]; exact (Finset.sum_congr rfl fun i _ => hk h u i d).trans (coe_sum _ _).symm
  pointwise [scores, simil, penalty]
  simp only [hR, hK, ← EReal.coe_mul]
  rw [← coe_sum, scl_at, Bits.uitofp_bit, total_val T B hk hs]
  unfold score
  by_cases ha : Active s h w'
  · rw [if_pos ha, if_pos (by exact ha)]
    have h0 : (1 : EReal) - ((1 : ℝ) : EReal) = 0 := by norm_cast
    rw [h0, zero_mul, add_zero, ← EReal.coe_mul]
    rfl
  · rw [if_neg ha, if_neg (by exact ha)]
    have h1 : (1 : EReal) - ((0 : ℝ) : EReal) = 1 := by norm_cast
    rw [h1, one_mul, show (∑ d : Fin 48, winSum (fun n => q s h n d) w * winSum (fun n => k s h n d) w') = sim s h w w' from rfl,
      hs.sim_quiet ha, EReal.coe_zero, zero_mul, zero_add]

end block

/-- The second operand of a sort by pairs, at an index. -/
theorem sort2_snd (s : Shape) (d : ℕ) (hd : d < s.rank) {α β : Type} (cmp : α × β → α × β → BitVec 1) (x : s.Idx → α) (y : s.Idx → β)
    (j : s.Idx) : (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The position along an axis, where that axis has been set. -/
theorem iota_along (s : Shape) (a : Fin s.rank) (j : s.Idx) (x : Fin (s.size a)) :
    iotaInDim s 32 a (j.along a x) = BitVec.ofNat 32 x.val := by
  unfold iotaInDim Shape.Idx.along
  rw [Function.update_self]

/-- The first four places. -/
theorem first_at (x : IVec S4x8x8x8x8 32) (T : Fin 4) (B h w : Fin 8) (t : Fin 4) :
    extractStridedSlice S4x8x8x8x4 (fun _ => 0) x sliceFits_S4x8x8x8x8_S4x8x8x8x4 (ix5 T B h w t)
      = x (ix5 T B h w ⟨t, by omega⟩) := by
  refine congrArg x (funext fun b => Fin.ext ?_)
  match b with
  | ⟨0, _⟩ => exact Nat.zero_add _
  | ⟨1, _⟩ => exact Nat.zero_add _
  | ⟨2, _⟩ => exact Nat.zero_add _
  | ⟨3, _⟩ => exact Nat.zero_add _
  | ⟨4, _⟩ => exact Nat.zero_add _

/-- The windows picked: a stable descending sort's first four places. -/
theorem picks_at (r : FVec Ideal S4x8x8x8x8 .f32) (T : Fin 4) (B h w : Fin 8) (t : Fin 4) :
    picks r (ix5 T B h w t) = BitVec.ofNat 32 (pick (fun w' => r (ix5 T B h w w')) t) := by
  unfold picks Host.topK
  dsimp only
  have hj : ∀ a : Fin 8, Shape.Idx.along (s := S4x8x8x8x8) (ix5 T B h w ⟨t, by omega⟩) 4 a = ix5 T B h w a := fun a => by
    funext b
    apply Fin.ext
    match b with
    | ⟨0, _⟩ => rfl
    | ⟨1, _⟩ => rfl
    | ⟨2, _⟩ => rfl
    | ⟨3, _⟩ => rfl
    | ⟨4, _⟩ => rfl
  have hs : sortedFrom (fun a b : Fin 8 => FloatOps.cmpfTotal (F := Ideal) (φ := .f32) .gt
      (r (Shape.Idx.along (s := S4x8x8x8x8) (ix5 T B h w ⟨t, by omega⟩) 4 a))
      (r (Shape.Idx.along (s := S4x8x8x8x8) (ix5 T B h w ⟨t, by omega⟩) 4 b)) == 1#1)
      = sortedFrom (aheadTest fun w' => r (ix5 T B h w w')) := by
    refine sortedFrom_eq _ _ fun a b => ?_
    rw [hj a, hj b]
    show (Ideal.cmp .ogt (r (ix5 T B h w a)) (r (ix5 T B h w b)) == 1#1) = _
    unfold Ideal.cmp
    by_cases hl : r (ix5 T B h w b) < r (ix5 T B h w a) <;> simp [hl]
  rw [first_at, sort2_snd S4x8x8x8x8 4 (by decide)]
  dsimp only
  rw [dif_pos (by decide), iota_along]
  exact congrArg (fun a : Fin 8 => BitVec.ofNat 32 a.val) (congrFun hs ⟨t, by omega⟩)

end Cert.RefTerm

end
-- ==== Proof.RefRead.lean ====
/- The reference's gather and attention at an index, and its result against the specification. -/
module

public import proofs.«01_k».proof.Proof.RefRoute

@[expose] public section

set_option maxRecDepth 16384

noncomputable section

namespace Cert.RefTerm

open Cert.ReferenceIdeal Cert.ReferenceIdeal.Gen Idealize.ShloMosaic Idealize.ShloMosaic.TcCoe Idealize.SL.Sem
open Cert.Spec

/-- The batch entry of a pair of leading indices and a head. -/
abbrev entry (T : Fin 4) (B h : Fin 8) : Fin 256 := ⟨T * 64 + B * 8 + h, by omega⟩

/-- The entry's first leading index. -/
theorem entry_fst (T : Fin 4) (B h : Fin 8) : (⟨(T * 64 + B * 8 + h : ℕ) / 64, by omega⟩ : Fin 4) = T := Fin.ext (by dsimp only; omega)
/-- The entry's second leading index. -/
theorem entry_snd (T : Fin 4) (B h : Fin 8) : (⟨(T * 64 + B * 8 + h : ℕ) / 8 % 8, by omega⟩ : Fin 8) = B := Fin.ext (by dsimp only; omega)
/-- The entry's head. -/
theorem entry_head (T : Fin 4) (B h : Fin 8) : (⟨(T * 64 + B * 8 + h : ℕ) % 8, by omega⟩ : Fin 8) = h := Fin.ext (by dsimp only; omega)

/-! ## The gathered rows -/

/-- The rows of the windows picked, in order. -/
theorem rows_at (p : IVec S4x8x8x8x4 32) (f : Fin 256) (w : Fin 8) (g : Fin 512) :
    rows p (ix3 f w g) = IntOp.addi (IntOp.muli (p (ix5 ⟨f / 64, by omega⟩ ⟨f / 8 % 8, by omega⟩ ⟨f % 8, by omega⟩ w ⟨g / 128, by omega⟩)) 128#32)
      (BitVec.ofNat 32 (g % 128)) := by
  pointwise [rows]

/-- The same for one entry, from the windows picked there. -/
theorem rows_val {p : IVec S4x8x8x8x4 32} {T : Fin 4} {B h w : Fin 8} {pk : Fin 4 → Fin 8}
    (hp : ∀ t, p (ix5 T B h w t) = BitVec.ofNat 32 (pk t)) (g : Fin 512) :
    rows p (ix3 (entry T B h) w g) = BitVec.ofNat 32 (row (pk ⟨g / 128, by omega⟩) ⟨g % 128, by omega⟩ : Fin 1024) := by
  rw [rows_at]
  dsimp only [entry]
  rw [entry_fst, entry_snd, entry_head, hp]
  unfold row IntOp.addi IntOp.muli
  rw [BitVec.ofNat_add, BitVec.ofNat_mul]

/-- A small number is not negative as a signed word. -/
theorem slt_zero (n : ℕ) (hn : n < 1024) : IntOp.cmpi .slt (BitVec.ofNat 32 n) 0#32 = 0#1 :=
  (by decide +kernel : ∀ n : Fin 1024, IntOp.cmpi .slt (BitVec.ofNat 32 n) 0#32 = 0#1) ⟨n, hn⟩

/-- The first component of a pair is the entry's number. -/
theorem pairs_fst (p : IVec S256x8x512 32) (f : Fin 256) (w : Fin 8) (g : Fin 512) : pairs p (ix4 f w g 0) = BitVec.ofNat 32 f := by
  pointwise [pairs, entryNo, rowNo]
  rw [slt_zero f (by omega)]
  rfl

/-- The second component of a pair is the row's number. -/
theorem pairs_snd (p : IVec S256x8x512 32) (f : Fin 256) (w : Fin 8) (g : Fin 512) (n : Fin 1024)
    (hp : p (ix3 f w g) = BitVec.ofNat 32 n) : pairs p (ix4 f w g 1) = BitVec.ofNat 32 n := by
  pointwise [pairs, entryNo, rowNo]
  rw [hp, slt_zero n n.2]
  rfl

/-- A small number read back off a signed word, clamped at a bound it does not pass. -/
theorem clamp (n b : ℕ) (hn : n ≤ b) (hb : b < 1024) : min (BitVec.ofNat 32 n).toInt.toNat b = n := by
  have h : (BitVec.ofNat 32 n).toInt.toNat = n :=
    (by decide +kernel : ∀ n : Fin 1024, (BitVec.ofNat 32 n).toInt.toNat = n) ⟨n, by omega⟩
  rw [h, min_eq_left hn]

/-- The gather reads the row that the pair names. -/
theorem gather_at (x : FVec Ideal S256x1024x48 .f32) (idx : IVec S256x8x512x2 32) (f : Fin 256) (w : Fin 8) (g : Fin 512) (d : Fin 48)
    (n : Fin 1024) (h0 : idx (ix4 f w g 0) = BitVec.ofNat 32 f) (h1 : idx (ix4 f w g 1) = BitVec.ofNat 32 n) :
    Host.gather gather_S256x1024x48_S256x8x512x2_S256x8x512x48_3_01_n_n_01_3_1148 x idx (ix4 f w g d) = x (ix3 f n d) := by
  have i0 : gather_S256x1024x48_S256x8x512x2_S256x8x512x48_3_01_n_n_01_3_1148.siIdx (ix4 f w g d) ⟨0, by decide⟩ = ix4 f w g 0 := by
    funext b
    match b with
    | ⟨0, _⟩ => rfl
    | ⟨1, _⟩ => rfl
    | ⟨2, _⟩ => rfl
    | ⟨3, _⟩ => rfl
  have i1 : gather_S256x1024x48_S256x8x512x2_S256x8x512x48_3_01_n_n_01_3_1148.siIdx (ix4 f w g d) ⟨1, by decide⟩ = ix4 f w g 1 := by
    funext b
    match b with
    | ⟨0, _⟩ => rfl
    | ⟨1, _⟩ => rfl
    | ⟨2, _⟩ => rfl
    | ⟨3, _⟩ => rfl
  unfold Host.gather
  refine congrArg x (funext fun a => Fin.ext ?_)
  match a with
  | ⟨0, _⟩ =>
    show min (idx (gather_S256x1024x48_S256x8x512x2_S256x8x512x48_3_01_n_n_01_3_1148.siIdx (ix4 f w g d) ⟨0, by decide⟩)).toInt.toNat 255 = f.val
    rw [i0, h0, clamp _ _ (by omega) (by omega)]
  | ⟨1, _⟩ =>
    show min (idx (gather_S256x1024x48_S256x8x512x2_S256x8x512x48_3_01_n_n_01_3_1148.siIdx (ix4 f w g d) ⟨1, by decide⟩)).toInt.toNat 1023 = n.val
    rw [i1, h1, clamp _ _ (by omega) (by omega)]
  | ⟨2, _⟩ => exact Nat.zero_add _

/-- Spikes laid out by batch entry and row. -/
theorem byEntry_at (z : FVec Ideal S4x8x8x8x128x48 .f32) (T : Fin 4) (B h : Fin 8) (n : Fin 1024) (d : Fin 48) :
    shapeCast S256x1024x48 z shapeCasts_S4x8x8x8x128x48_S256x1024x48 (ix3 (entry T B h) n d)
      = z (ix6 T B h ⟨n / 128, by omega⟩ ⟨n % 128, by omega⟩ d) := by
  pointwise
  rw [entry_fst, entry_snd, entry_head]

/-- The rows gathered for a window, from the windows picked. -/
theorem gathered_at {z : FVec Ideal S4x8x8x8x128x48 .f32} {T : Fin 4} {B h : Fin 8} {u : Fin 1024 → Fin 48 → ℝ}
    (hz : ∀ w i d, z (ix6 T B h w i d) = ((u (row w i) d : ℝ) : EReal))
    {p : IVec S4x8x8x8x4 32} {w : Fin 8} {pk : Fin 4 → Fin 8}
    (hp : ∀ t, p (ix5 T B h w t) = BitVec.ofNat 32 (pk t)) (g : Fin 512) (d : Fin 48) :
    gathered z (rows p) (ix4 (entry T B h) w g d) = ((u (row (pk ⟨g / 128, by omega⟩) ⟨g % 128, by omega⟩) d : ℝ) : EReal) := by
  unfold gathered
  rw [gather_at _ _ _ _ _ _ _ (pairs_fst _ _ _ _) (pairs_snd _ _ _ _ _ (rows_val hp g)), byEntry_at, hz]
  refine congrArg (fun n => ((u n d : ℝ) : EReal)) (Fin.ext ?_)
  simp only [row]
  omega

/-! ## The attention -/

/-- The attention scores at an index. -/
theorem logits_at (qq : FVec Ideal S4x8x8x8x128x48 .f32) (kg : FVec Ideal S256x8x512x48 .f32) (T : Fin 4) (B h w : Fin 8) (i : Fin 128)
    (g : Fin 512) : logits qq kg (ix4 (entry T B h) w i g)
      = (∑ d, qq (ix6 T B h w i d) * kg (ix4 (entry T B h) w g d)) * scl ix0 := by
  pointwise [logits]
  simp only [entry_fst, entry_snd, entry_head]

/-- A maximum of two arrays at an index. -/
theorem max_at {S : Shape} (a b : FVec Ideal S .f32) (j : S.Idx) : maximumf a b j = max (a j) (b j) := rfl

/-- A maximum along the last of four axes. -/
theorem reduce_last {n0 n1 n2 n3 : ℕ} {u : Shape} (l : FVec Ideal ⟨4, ![n0, n1, n2, n3]⟩ .f32) (init : FVec Ideal u .f32)
    (hr : (⟨4, ![n0, n1, n2, n3]⟩ : Shape).ReducesTo [3] ⟨3, ![n0, n1, n2]⟩) (hu : 0 < u.numel) (f : Fin n0) (w : Fin n1) (i : Fin n2) :
    Host.reduce FloatOps.maximumf l init hr hu (ix3 f w i)
      = Finset.univ.fold max (init (Shape.Idx.first hu)) fun g => l (ix4 f w i g) := by
  rw [Ideal.maximumf_eq_max, Host.reduce_eq_fold, hr.fold_fiber_r4_a3]
  rfl

/-- The greatest score at an index. -/
theorem top_at (l : FVec Ideal S256x8x128x512 .f32) (f : Fin 256) (w : Fin 8) (i : Fin 128) :
    top l (ix3 f w i) = max (Ideal.ofBits .f32 0xFF800000#32)
      (Finset.univ.fold max (Ideal.ofBits .f32 0xFF800000#32) fun g => l (ix4 f w i g)) := by
  unfold top
  rw [max_at, reduce_last]
  have hc : ∀ j, constant (F := Ideal) S_ .f32 0xFF800000#32 j = Ideal.ofBits .f32 0xFF800000#32 := fun _ => rfl
  have hb : ∀ x : FVec Ideal S_ .f32, broadcastInDim S256x8x128 ![] bcast_S_S256x8x128 x (ix3 f w i) = x ix0 := fun x => by
    pointwise
  rw [hb, hc, hc]

/-- The exponentials at an index. -/
theorem expo_at (l : FVec Ideal S256x8x128x512 .f32) (f : Fin 256) (w : Fin 8) (i : Fin 128) (g : Fin 512) :
    expo l (ix4 f w i g) = Ideal.exp (l (ix4 f w i g) - top l (ix3 f w i)) := by
  pointwise [expo]

/-- The softmax at an index. -/
theorem soft_at (l : FVec Ideal S256x8x128x512 .f32) (f : Fin 256) (w : Fin 8) (i : Fin 128) (g : Fin 512) :
    soft l (ix4 f w i g) = Ideal.div (expo l (ix4 f w i g)) (∑ g', expo l (ix4 f w i g')) := by
  pointwise [soft]

/-- The softmax of real scores, against the greatest of them. -/
theorem soft_val {l : FVec Ideal S256x8x128x512 .f32} {f : Fin 256} {w : Fin 8} {i : Fin 128} {L : Fin 512 → ℝ}
    (hl : ∀ g, l (ix4 f w i g) = (L g : EReal)) : ∃ M : ℝ, ∀ g,
      soft l (ix4 f w i g) = ((Real.exp (L g - M) / ∑ g', Real.exp (L g' - M) : ℝ) : EReal) := by
  obtain ⟨M, hM⟩ := fold_max_real (n := 511) L
  have ht : top l (ix3 f w i) = (M : EReal) := by
    rw [top_at, Bits.bottom]
    simp only [hl]
    rw [hM]
    exact max_eq_right bot_le
  have he : ∀ g, expo l (ix4 f w i g) = ((Real.exp (L g - M) : ℝ) : EReal) := fun g => by
    rw [expo_at, ht, hl, ← EReal.coe_sub, Ideal.exp_coe]
  refine ⟨M, fun g => ?_⟩
  have hp : 0 < ∑ g', Real.exp (L g' - M) := Finset.sum_pos (fun _ _ => Real.exp_pos _) ⟨0, Finset.mem_univ _⟩
  rw [soft_at]
  simp only [he]
  rw [← coe_sum, Ideal.div_coe hp.ne', ← EReal.coe_mul, mul_one_div]

/-- The attention's result at an index. -/
theorem attended_at (l : FVec Ideal S256x8x128x512 .f32) (vg : FVec Ideal S256x8x512x48 .f32) (T : Fin 4) (B : Fin 8)
    (n : Fin 1024) (e : Fin 384) : attended l vg (ix4 T B n e)
      = ∑ g, soft l (ix4 (entry T B ⟨e / 48, by omega⟩) ⟨n / 128, by omega⟩ ⟨n % 128, by omega⟩ g)
        * vg (ix4 (entry T B ⟨e / 48, by omega⟩) ⟨n / 128, by omega⟩ g ⟨e % 48, by omega⟩) := by
  pointwise [attended]

/-- The projection and the last firing at an index. -/
theorem last_at (a : FVec Ideal S4x8x1024x384 .f32) (W : FVec Ideal S384x384 .f32) (b : FVec Ideal S384 .f32) (T : Fin 4) (B : Fin 8)
    (n : Fin 1024) (e : Fin 384) :
    last a W b (ix4 T B n e) = ((fire (∑ x, a (ix4 T B n x) * W (ix2 e x) + b (ix1 e)) : ℝ) : EReal) := by
  pointwise [last]
  exact Bits.uitofp_bit _

/-- The projected values at an index. -/
theorem qkv_at (x : FVec Ideal S4x8x1024x384 .f32) (W : FVec Ideal S1152x384 .f32) (b : FVec Ideal S1152 .f32) (T : Fin 4) (B : Fin 8)
    (n : Fin 1024) (e : Fin 1152) : qkv x W b (ix4 T B n e) = ∑ c, x (ix4 T B n c) * W (ix2 e c) + b (ix1 e) := by
  pointwise [qkv]

/-- A sum over the gathered rows is the sum over the rows of the windows taken. -/
theorem sum_gathered (key : Fin 8 → EReal) (F : Fin 1024 → ℝ) [DecidablePred (Taken key)] :
    ∑ g : Fin 512, F (row (pick key ⟨g / 128, by omega⟩) ⟨g % 128, by omega⟩) = ∑ j, if Taken key (win j) then F j else 0 := by
  rw [Fin.sum_univ_tiles 4 128 rfl, ← sum_pick]
  refine Finset.sum_congr rfl fun t _ => Finset.sum_congr rfl fun i _ => ?_
  congr 2
  · exact congrArg _ (Fin.ext (by dsimp only; omega))
  · exact Fin.ext (by dsimp only; omega)

section block

variable {s : Block} (hs : Spikes s) {qq kk vv : FVec Ideal S4x8x8x8x128x48 .f32} (T : Fin 4) (B : Fin 8)
  (hq : ∀ h w i d, qq (ix6 T B h w i d) = ((q s h (row w i) d : ℝ) : EReal))
  (hk : ∀ h w i d, kk (ix6 T B h w i d) = ((k s h (row w i) d : ℝ) : EReal))
  (hv : ∀ h w i d, vv (ix6 T B h w i d) = ((v s h (row w i) d : ℝ) : EReal))
include hs hq hk hv

open Classical in
/-- The reference's attention is the specification's. -/
theorem attended_val (n : Fin 1024) (e : Fin 384) :
    attended (logits qq (gathered kk (rows (picks (scores qq kk))))) (gathered vv (rows (picks (scores qq kk)))) (ix4 T B n e)
      = ((attCol s n e : ℝ) : EReal) := by
  obtain ⟨h, hh⟩ : ∃ h : Fin 8, h = ⟨e / 48, by omega⟩ := ⟨_, rfl⟩
  obtain ⟨d, hd⟩ : ∃ d : Fin 48, d = ⟨e % 48, by omega⟩ := ⟨_, rfl⟩
  obtain ⟨i, hi⟩ : ∃ i : Fin 128, i = ⟨n % 128, by omega⟩ := ⟨_, rfl⟩
  have hrow : row (win n) i = n := by rw [hi]; exact Fin.ext (by simp only [row, win]; omega)
  have hkey : (fun w' => scores qq kk (ix5 T B h (win n) w')) = score s (Ideal.ofBits .f32 0xCE6E6B28#32) h (win n) :=
    funext fun w' => scores_at hs T B hq hk h (win n) w'
  have hp : ∀ t, picks (scores qq kk) (ix5 T B h (win n) t)
      = BitVec.ofNat 32 (pick (score s (Ideal.ofBits .f32 0xCE6E6B28#32) h (win n)) t) := fun t => by rw [picks_at, hkey]
  have hkg : ∀ g x, gathered kk (rows (picks (scores qq kk))) (ix4 (entry T B h) (win n) g x)
      = ((k s h (row (pick (score s (Ideal.ofBits .f32 0xCE6E6B28#32) h (win n)) ⟨g / 128, by omega⟩) ⟨g % 128, by omega⟩) x : ℝ) : EReal) :=
    fun g x => gathered_at (u := fun n d => k s h n d) (hk h) hp g x
  have hvg : ∀ g x, gathered vv (rows (picks (scores qq kk))) (ix4 (entry T B h) (win n) g x)
      = ((v s h (row (pick (score s (Ideal.ofBits .f32 0xCE6E6B28#32) h (win n)) ⟨g / 128, by omega⟩) ⟨g % 128, by omega⟩) x : ℝ) : EReal) :=
    fun g x => gathered_at (u := fun n d => v s h n d) (hv h) hp g x
  have hl : ∀ g, logits qq (gathered kk (rows (picks (scores qq kk)))) (ix4 (entry T B h) (win n) i g)
      = (((∑ d, q s h n d * k s h (row (pick (score s (Ideal.ofBits .f32 0xCE6E6B28#32) h (win n)) ⟨g / 128, by omega⟩)
        ⟨g % 128, by omega⟩) d) * scale : ℝ) : EReal) := fun g => by
    rw [logits_at, scl_at]
    simp only [hq, hkg, hrow, ← EReal.coe_mul]
    rw [← coe_sum, ← EReal.coe_mul]
  obtain ⟨M, hM⟩ := soft_val hl
  rw [attended_at, ← hh, ← hd, ← hi, show (⟨n / 128, by omega⟩ : Fin 8) = win n from rfl]
  simp only [hM, hvg, ← EReal.coe_mul]
  rw [← coe_sum, softmax_mean]
  unfold attCol att
  rw [← hh, ← hd]
  have hlow : Ideal.ofBits .f32 0xCE6E6B28#32 < 0 := by
    rw [Bits.low]; exact EReal.coe_lt_coe_iff.mpr (by norm_num)
  congr 2
  · refine (sum_gathered (score s (Ideal.ofBits .f32 0xCE6E6B28#32) h (win n))
      (fun j => Real.exp ((∑ d, q s h n d * k s h j d) * scale) * v s h j d)).trans (Finset.sum_congr rfl fun j _ => ?_)
    unfold weight
    rw [ite_mul, zero_mul]
    exact if_congr (hs.taken_low hlow h (win n) (win j)) rfl rfl
  · refine (sum_gathered (score s (Ideal.ofBits .f32 0xCE6E6B28#32) h (win n))
      (fun j => Real.exp ((∑ d, q s h n d * k s h j d) * scale))).trans (Finset.sum_congr rfl fun j _ => ?_)
    unfold weight
    exact if_congr (hs.taken_low hlow h (win n) (win j)) rfl rfl

end block

/-- The reference's result at an index. -/
theorem whole_at (x : FVec Ideal S4x8x1024x384 .f32) (W : FVec Ideal S1152x384 .f32) (b : FVec Ideal S1152 .f32)
    (Wp : FVec Ideal S384x384 .f32) (bp : FVec Ideal S384 .f32) (T : Fin 4) (B : Fin 8) (n : Fin 1024) (o : Fin 384) :
    whole x W b Wp bp (ix4 T B n o)
      = ((fire (∑ e : Fin 384, ((attCol (fun n c => fire (∑ e, x (ix4 T B n e) * W (ix2 c e) + b (ix1 c))) n e : ℝ) : EReal)
        * Wp (ix2 o e) + bp (ix1 o)) : ℝ) : EReal) := by
  have hb : block (qkv x W b) T B = fun n c => fire (∑ e, x (ix4 T B n e) * W (ix2 c e) + b (ix1 c)) := by
    funext n c
    unfold block
    rw [qkv_at]
  unfold whole
  rw [last_at, ← hb]
  simp only [attended_val (block_spikes (qkv x W b) T B) T B (fun h w i d => qs_at _ T B h w i d) (fun h w i d => ks_at _ T B h w i d)
    (fun h w i d => vs_at _ T B h w i d)]

end Cert.RefTerm

end
-- ==== Proof.Value.lean ====
/- The value claim: the kernel's result is the reference's. -/
module

public import proofs.«01_k».proof.Defs
public import proofs.«01_k».proof.Proof.KRun
public import proofs.«01_k».proof.Proof.RefRead
public import Idealize.ShloMosaic.Lib.Claim

@[expose] public section

noncomputable section

namespace Cert.ValueClaim

open Idealize.ShloMosaic Idealize.ShloMosaic.TcCoe Idealize.SL.Sem

/-- The kernel's result array equals the reference's chain of stages over the same arguments. -/
theorem result_eq (m : (ℓ : Loc Cert.KernelIdeal.nD Cert.KernelIdeal.τ Cert.KernelIdeal.sig) → Buf (Elt Ideal) ℓ)
    (c : Dev Cert.KernelIdeal.nD) :
    shapeCast Cert.KernelIdeal.S4x8x1024x384 (Cert.KRun.rowsOut m c) Cert.KernelIdeal.Gen.shapeCasts_S32768x384_S4x8x1024x384
      = Cert.RefTerm.whole (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) := by
  funext j
  obtain ⟨T, B, n, o, rfl⟩ : ∃ T B n o, j = ix4 T B n o := ⟨j 0, j 1, j 2, j 3, by idx_vars j⟩
  exact (Cert.KRun.result_at m c T B n o).trans (Cert.RefTerm.whole_at _ _ _ _ _ T B n o).symm

/-- After the region the result buffer holds the region's array, split into the leading pairs. -/
theorem tail_eq (m : (ℓ : Loc Cert.KernelIdeal.nD Cert.KernelIdeal.τ Cert.KernelIdeal.sig) → Buf (Elt Ideal) ℓ)
    (c : Dev Cert.KernelIdeal.nD) :
    Pipeline.afterTail₀ Cert.KernelIdeal.cfgs (Cert.KernelIdeal.Gen.dats m) 0 (Cert.KernelIdeal.Gen.V0 m) [Cert.KernelIdeal.Gen.hostOps1] c
        Cert.KernelIdeal.main_v5
      = shapeCast Cert.KernelIdeal.S4x8x1024x384 ((Cert.KernelIdeal.Gen.dats m 0 c).arrAt 5 Cert.KernelIdeal.cfg0.N)
        Cert.KernelIdeal.Gen.shapeCasts_S32768x384_S4x8x1024x384 := by
  unfold Pipeline.afterTail₀
  exact congrArg (fun x => shapeCast Cert.KernelIdeal.S4x8x1024x384 x Cert.KernelIdeal.Gen.shapeCasts_S32768x384_S4x8x1024x384)
    (Pipeline.withArrays_arr Cert.KernelIdeal.spec0 (by decide) c (Cert.KernelIdeal.Gen.V0 m c)
      (fun w => (Cert.KernelIdeal.Gen.dats m 0 c).arrAt w Cert.KernelIdeal.cfg0.N) 5)

/-- The kernel's run: the result is the reference's chain of stages, the arguments are as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v5)
          = Cert.RefTerm.whole (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  (θ_run Cert.KernelIdeal.defs _ _).mono
    (fun _ h c => ⟨((h.2 c).2 Cert.KernelIdeal.main_v5 (Pipeline.mem_restRefs_of Cert.KernelIdeal.main_v5 (by decide) (by decide))).trans
      ((tail_eq m c).trans ((congrArg (fun x => shapeCast Cert.KernelIdeal.S4x8x1024x384 x
        Cert.KernelIdeal.Gen.shapeCasts_S32768x384_S4x8x1024x384) (Cert.KRun.final m c)).trans (result_eq m c))), h.1 c⟩)
    (θ_run_and (Cert.KernelIdeal.Gen.unchanged m ρ) (Cert.KernelIdeal.Gen.run_main m ρ))

/-- Over exact numbers the kernel and the reference, from the same arguments, leave the same result. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.RefTerm.res_eq, (hagree c).1, (hagree c).2.1, (hagree c).2.2.1, (hagree c).2.2.2.1, (hagree c).2.2.2.2]

end Cert.ValueClaim

end
-- ==== Proof.lean ====
/- The certificate's claims, assembled behind the witnesses of the programs' stated facts. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value
public import Idealize.ShloMosaic.Adequacy
public import Idealize.ShloMosaic.Init

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.Frames.kernel, Cert.Frames.kernelIdeal, Cert.Frames.referenceIdeal, Cert.Frames.preserves,
    Cert.ValueClaim.algebraic⟩

end Cert.Proof

end
